-- ==== Defs.lean ====
def Pre_Kernel [hPre_sizes_in_range : Cert.Pre_sizes_in_range.Facts] (m : (ℓ : Loc Cert.Kernel.nD Cert.Kernel.τ Cert.Kernel.sig) → Buf (Elt Bits) ℓ) : Prop :=
  ∀ c : Dev Cert.Kernel.nD,
    (Cert.Pre_sizes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_in_range : Cert.Pre_sizes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_in_range [hPre_sizes_in_range : Cert.Pre_sizes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_in_range : Cert.Pre_sizes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_in_range [hReferenceIdeal : Cert.ReferenceIdeal.Facts] [hPre_sizes_in_range : Cert.Pre_sizes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_in_range : Cert.Pre_sizes_in_range.Facts),
    quiescent_Kernel (hKernel := hKernel) (hPre_sizes_in_range := hPre_sizes_in_range)
    ∧ quiescent_KernelIdeal (hKernelIdeal := hKernelIdeal) (hPre_sizes_in_range := hPre_sizes_in_range)
    ∧ quiescent_ReferenceIdeal (hReferenceIdeal := hReferenceIdeal)
    ∧ quiescent_ReferenceIdeal_pre_sizes_in_range (hReferenceIdeal := hReferenceIdeal) (hPre_sizes_in_range := hPre_sizes_in_range)
    ∧ preserves_Kernel_KernelIdeal
    ∧ algebraic_KernelIdeal_ReferenceIdeal (hKernelIdeal := hKernelIdeal) (hReferenceIdeal := hReferenceIdeal) (hPre_sizes_in_range := hPre_sizes_in_range)
-- ==== Pre_sizes_in_range.lean ====
abbrev S98304x1408 : Shape := ⟨2, ![98304, 1408]⟩
abbrev S98304 : Shape := ⟨1, ![98304]⟩
abbrev S16x1408x2048 : Shape := ⟨3, ![16, 1408, 2048]⟩
abbrev S16x2048 : Shape := ⟨2, ![16, 2048]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S98304x1408 .fp8e4m3) (main_arg1 : FVec F S98304 .f32) (main_arg2 : FVec F S16x1408x2048 .fp8e4m3) (main_arg3 : FVec F S16x2048 .f32) (main_arg4 : IVec S16 32) : IVec S16 1 :=
  let main_c : IVec S_ 32 := constantI S_ 32 0#32
  let main_v0 : IVec S16 32 := broadcastInDim S16 ![] bcast_S_S16 main_c
  let main_v1 : IVec S16 1 := cmpi .sge main_arg4 main_v0
  let main_c_0 : IVec S_ 32 := constantI S_ 32 98304#32
  let main_v2 : IVec S16 32 := broadcastInDim S16 ![] bcast_S_S16 main_c_0
  let main_v3 : IVec S16 1 := cmpi .sle main_arg4 main_v2
  let main_v4 : IVec S16 1 := andi main_v1 main_v3
  main_v4
-- ==== Kernel.lean ====
abbrev S98304x1408 : Shape := ⟨2, ![98304, 1408]⟩
abbrev S98304 : Shape := ⟨1, ![98304]⟩
abbrev S16x1408x2048 : Shape := ⟨3, ![16, 1408, 2048]⟩
abbrev S16x2048 : Shape := ⟨2, ![16, 2048]⟩
abbrev S16 : Shape := ⟨1, ![16]⟩
abbrev S_ : Shape := ⟨0, ![]⟩
abbrev S1 : Shape := ⟨1, ![1]⟩
abbrev S17 : Shape := ⟨1, ![17]⟩
abbrev S112 : Shape := ⟨1, ![112]⟩
abbrev S1x112 : Shape := ⟨2, ![1, 112]⟩
abbrev S17x1 : Shape := ⟨2, ![17, 1]⟩
abbrev S17x112 : Shape := ⟨2, ![17, 112]⟩
abbrev S112x1 : Shape := ⟨2, ![112, 1]⟩
abbrev S768x128 : Shape := ⟨2, ![768, 128]⟩
abbrev S16x1x2048 : Shape := ⟨3, ![16, 1, 2048]⟩
abbrev S98304x2048 : Shape := ⟨2, ![98304, 2048]⟩
abbrev S1024x1408 : Shape := ⟨2, ![1024, 1408]⟩
abbrev S8x128 : Shape := ⟨2, ![8, 128]⟩
abbrev S1x1408x2048 : Shape := ⟨3, ![1, 1408, 2048]⟩
abbrev S1x1x2048 : Shape := ⟨3, ![1, 1, 2048]⟩
abbrev S1024x2048 : Shape := ⟨2, ![1024, 2048]⟩
abbrev S128x8 : Shape := ⟨2, ![128, 8]⟩
abbrev S1x2048 : Shape := ⟨2, ![1, 2048]⟩
abbrev S256x1408 : Shape := ⟨2, ![256, 1408]⟩
abbrev S1408x2048 : Shape := ⟨2, ![1408, 2048]⟩
abbrev S256x2048 : Shape := ⟨2, ![256, 2048]⟩
abbrev S128x1 : Shape := ⟨2, ![128, 1]⟩
abbrev S256x1 : Shape := ⟨2, ![256, 1]⟩

abbrev nBuf : Space → Nat
  | .hbm => 143
  | .vmem => 10
  | .smem => 4
  | _ => 0

abbrev hbmTy0_0 (i : Nat) : BufTy := match i % 128 with
  | 0 => ⟨S98304x1408, .fp8e4m3⟩
  | 1 => ⟨S98304, .f32⟩
  | 2 => ⟨S16x1408x2048, .fp8e4m3⟩
  | 3 => ⟨S16x2048, .f32⟩
  | 4 => ⟨S16, .i32⟩
  | 5 => ⟨S_, .i32⟩
  | 6 => ⟨S_, .i32⟩
  | 7 => ⟨S16, .i32⟩
  | 8 => ⟨S_, .i32⟩
  | 9 => ⟨S16, .i32⟩
  | 10 => ⟨S16, .i32⟩
  | 11 => ⟨S_, .i32⟩
  | 12 => ⟨S1, .i32⟩
  | 13 => ⟨S17, .i32⟩
  | 14 => ⟨S_, .i32⟩
  | 15 => ⟨S1, .i32⟩
  | 16 => ⟨S16, .i32⟩
  | 17 => ⟨S17, .i32⟩
  | 18 => ⟨S_, .i32⟩
  | 19 => ⟨S_, .i32⟩
  | 20 => ⟨S17, .i32⟩
  | 21 => ⟨S17, .i32⟩
  | 22 => ⟨S17, .i32⟩
  | 23 => ⟨S_, .i32⟩
  | 24 => ⟨S17, .i32⟩
  | 25 => ⟨S17, .i1⟩
  | 26 => ⟨S17, .i32⟩
  | 27 => ⟨S17, .i32⟩
  | 28 => ⟨S_, .i32⟩
  | 29 => ⟨S17, .i32⟩
  | 30 => ⟨S17, .i1⟩
  | 31 => ⟨S17, .i1⟩
  | 32 => ⟨S_, .i32⟩
  | 33 => ⟨S17, .i32⟩
  | 34 => ⟨S17, .i32⟩
  | 35 => ⟨S17, .i32⟩
  | 36 => ⟨S17, .i1⟩
  | 37 => ⟨S_, .i32⟩
  | 38 => ⟨S17, .i32⟩
  | 39 => ⟨S17, .i32⟩
  | 40 => ⟨S_, .i32⟩
  | 41 => ⟨S_, .i32⟩
  | 42 => ⟨S17, .i32⟩
  | 43 => ⟨S17, .i32⟩
  | 44 => ⟨S17, .i32⟩
  | 45 => ⟨S_, .i32⟩
  | 46 => ⟨S17, .i32⟩
  | 47 => ⟨S17, .i1⟩
  | 48 => ⟨S17, .i32⟩
  | 49 => ⟨S17, .i32⟩
  | 50 => ⟨S_, .i32⟩
  | 51 => ⟨S17, .i32⟩
  | 52 => ⟨S17, .i1⟩
  | 53 => ⟨S17, .i1⟩
  | 54 => ⟨S_, .i32⟩
  | 55 => ⟨S17, .i32⟩
  | 56 => ⟨S17, .i32⟩
  | 57 => ⟨S17, .i32⟩
  | 58 => ⟨S17, .i32⟩
  | 59 => ⟨S_, .i32⟩
  | 60 => ⟨S17, .i32⟩
  | 61 => ⟨S17, .i32⟩
  | 62 => ⟨S_, .i32⟩
  | 63 => ⟨S_, .i32⟩
  | 64 => ⟨S17, .i32⟩
  | 65 => ⟨S17, .i32⟩
  | 66 => ⟨S_, .i32⟩
  | 67 => ⟨S_, .i32⟩
  | 68 => ⟨S17, .i32⟩
  | 69 => ⟨S112, .i32⟩
  | 70 => ⟨S1x112, .i32⟩
  | 71 => ⟨S17x1, .i32⟩
  | 72 => ⟨S17x112, .i32⟩
  | 73 => ⟨S17x112, .i32⟩
  | 74 => ⟨S17x112, .i1⟩
  | 75 => ⟨S17x112, .i32⟩
  | 76 => ⟨S_, .i32⟩
  | 77 => ⟨S112, .i32⟩
  | 78 => ⟨S_, .i32⟩
  | 79 => ⟨S112, .i32⟩
  | 80 => ⟨S112, .i1⟩
  | 81 => ⟨S_, .i32⟩
  | 82 => ⟨S112, .i32⟩
  | 83 => ⟨S_, .i32⟩
  | 84 => ⟨S112, .i32⟩
  | 85 => ⟨S112, .i1⟩
  | 86 => ⟨S_, .i32⟩
  | 87 => ⟨S112, .i32⟩
  | 88 => ⟨S112, .i32⟩
  | 89 => ⟨S112, .i32⟩
  | 90 => ⟨S112x1, .i32⟩
  | 91 => ⟨S112, .i32⟩
  | 92 => ⟨S112, .i32⟩
  | 93 => ⟨S_, .i32⟩
  | 94 => ⟨S112, .i32⟩
  | 95 => ⟨S112, .i1⟩
  | 96 => ⟨S_, .i32⟩
  | 97 => ⟨S112, .i32⟩
  | 98 => ⟨S112, .i32⟩
  | 99 => ⟨S112, .i32⟩
  | 100 => ⟨S112x1, .i32⟩
  | 101 => ⟨S112, .i32⟩
  | 102 => ⟨S_, .i32⟩
  | 103 => ⟨S112, .i32⟩
  | 104 => ⟨S112, .i1⟩
  | 105 => ⟨S_, .i32⟩
  | 106 => ⟨S112, .i32⟩
  | 107 => ⟨S112, .i32⟩
  | 108 => ⟨S112, .i32⟩
  | 109 => ⟨S112x1, .i32⟩
  | 110 => ⟨S112, .i32⟩
  | 111 => ⟨S112, .i32⟩
  | 112 => ⟨S112, .i32⟩
  | 113 => ⟨S_, .i32⟩
  | 114 => ⟨S_, .i32⟩
  | 115 => ⟨S112, .i32⟩
  | 116 => ⟨S_, .i32⟩
  | 117 => ⟨S112, .i32⟩
  | 118 => ⟨S112, .i1⟩
  | 119 => ⟨S_, .i32⟩
  | 120 => ⟨S112, .i32⟩
  | 121 => ⟨S112, .i32⟩
  | 122 => ⟨S112, .i32⟩
  | 123 => ⟨S112x1, .i32⟩
  | 124 => ⟨S112, .i32⟩
  | 125 => ⟨S_, .i32⟩
  | 126 => ⟨S_, .i32⟩
  | 127 => ⟨S112, .i32⟩
  | _ => ⟨S98304x1408, .fp8e4m3⟩

abbrev hbmTy0_1 (i : Nat) : BufTy := match i % 128 with
  | 0 => ⟨S_, .i32⟩
  | 1 => ⟨S112, .i32⟩
  | 2 => ⟨S112, .i1⟩
  | 3 => ⟨S_, .i32⟩
  | 4 => ⟨S112, .i32⟩
  | 5 => ⟨S112, .i32⟩
  | 6 => ⟨S112, .i32⟩
  | 7 => ⟨S112x1, .i32⟩
  | 8 => ⟨S112, .i32⟩
  | 9 => ⟨S_, .i32⟩
  | 10 => ⟨S_, .i32⟩
  | 11 => ⟨S112, .i32⟩
  | 12 => ⟨S768x128, .f32⟩
  | 13 => ⟨S16x1x2048, .f32⟩
  | 14 => ⟨S98304x2048, .bf16⟩
  | _ => ⟨S98304x1408, .fp8e4m3⟩

abbrev hbmTy (i : Nat) : BufTy := match i / 128 with
  | 0 => hbmTy0_0 i
  | 1 => hbmTy0_1 i
  | _ => ⟨S98304x1408, .fp8e4m3⟩

abbrev bufTy : (tb : Table) → Fin (tcTables nBuf tb) → BufTy
  | .hbm, ⟨i, _⟩ => hbmTy i
  | .local _ .vmem, ⟨0, _⟩ => ⟨S1024x1408, .fp8e4m3⟩
  | .local _ .vmem, ⟨1, _⟩ => ⟨S1024x1408, .fp8e4m3⟩
  | .local _ .vmem, ⟨2, _⟩ => ⟨S8x128, .f32⟩
  | .local _ .vmem, ⟨3, _⟩ => ⟨S8x128, .f32⟩
  | .local _ .vmem, ⟨4, _⟩ => ⟨S1x1408x2048, .fp8e4m3⟩
  | .local _ .vmem, ⟨5, _⟩ => ⟨S1x1408x2048, .fp8e4m3⟩
  | .local _ .vmem, ⟨6, _⟩ => ⟨S1x1x2048, .f32⟩
  | .local _ .vmem, ⟨7, _⟩ => ⟨S1x1x2048, .f32⟩
  | .local _ .vmem, ⟨8, _⟩ => ⟨S1024x2048, .bf16⟩
  | .local _ .vmem, ⟨9, _⟩ => ⟨S1024x2048, .bf16⟩
  | .local _ .smem, ⟨0, _⟩ => ⟨S112, .i32⟩
  | .local _ .smem, ⟨1, _⟩ => ⟨S112, .i32⟩
  | .local _ .smem, ⟨2, _⟩ => ⟨S112, .i32⟩
  | .local _ .smem, ⟨3, _⟩ => ⟨S112, .i32⟩
  | _, _ => ⟨S98304x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v12 : Ref sig .tc := ⟨.hbm, 57, rfl⟩
abbrev main_v13 : Ref sig .tc := ⟨.hbm, 58, rfl⟩
abbrev main_c_5 : Ref sig .tc := ⟨.hbm, 59, rfl⟩
abbrev main_v14 : Ref sig .tc := ⟨.hbm, 60, rfl⟩
abbrev main_v15 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_v16 : Ref sig .tc := ⟨.hbm, 65, rfl⟩
abbrev main_call4_call0_c : Ref sig .tc := ⟨.hbm, 66, rfl⟩
abbrev main_call4_call0_v0 : Ref sig .tc := ⟨.hbm, 67, rfl⟩
abbrev main_v17 : Ref sig .tc := ⟨.hbm, 68, rfl⟩
abbrev main_v18 : Ref sig .tc := ⟨.hbm, 69, rfl⟩
abbrev main_call5_call0_v0 : Ref sig .tc := ⟨.hbm, 70, rfl⟩
abbrev main_call5_call0_v1 : Ref sig .tc := ⟨.hbm, 71, rfl⟩
abbrev main_call5_call0_v2 : Ref sig .tc := ⟨.hbm, 72, rfl⟩
abbrev main_call5_call0_v3 : Ref sig .tc := ⟨.hbm, 73, rfl⟩
abbrev main_call5_call0_v4 : Ref sig .tc := ⟨.hbm, 74, rfl⟩
abbrev main_call5_call0_v5 : Ref sig .tc := ⟨.hbm, 75, rfl⟩
abbrev main_call5_call0_c : Ref sig .tc := ⟨.hbm, 76, rfl⟩
abbrev main_v19 : Ref sig .tc := ⟨.hbm, 77, rfl⟩
abbrev main_c_7 : Ref sig .tc := ⟨.hbm, 78, rfl⟩
abbrev main_v20 : Ref sig .tc := ⟨.hbm, 79, rfl⟩
abbrev main_v21 : Ref sig .tc := ⟨.hbm, 80, rfl⟩
abbrev main_c_8 : Ref sig .tc := ⟨.hbm, 81, rfl⟩
abbrev main_v22 : Ref sig .tc := ⟨.hbm, 82, rfl⟩
abbrev main_c_9 : Ref sig .tc := ⟨.hbm, 83, rfl⟩
abbrev main_v24 : Ref sig .tc := ⟨.hbm, 84, rfl⟩
abbrev main_v25 : Ref sig .tc := ⟨.hbm, 85, rfl⟩
abbrev main_c_10 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_c_11 : Ref sig .tc := ⟨.hbm, 93, rfl⟩
abbrev main_v32 : Ref sig .tc := ⟨.hbm, 94, rfl⟩
abbrev main_v33 : Ref sig .tc := ⟨.hbm, 95, rfl⟩
abbrev main_c_12 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_c_13 : Ref sig .tc := ⟨.hbm, 102, rfl⟩
abbrev main_v39 : Ref sig .tc := ⟨.hbm, 103, rfl⟩
abbrev main_v40 : Ref sig .tc := ⟨.hbm, 104, rfl⟩
abbrev main_c_14 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_c_15 : Ref sig .tc := ⟨.hbm, 113, rfl⟩
abbrev main_call6_v0 : Ref sig .tc := ⟨.hbm, 114, rfl⟩
abbrev main_call6_v1 : Ref sig .tc := ⟨.hbm, 115, rfl⟩
abbrev main_c_16 : Ref sig .tc := ⟨.hbm, 116, rfl⟩
abbrev main_v49 : Ref sig .tc := ⟨.hbm, 117, rfl⟩
abbrev main_v50 : Ref sig .tc := ⟨.hbm, 118, rfl⟩
abbrev main_c_17 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_c_18 : Ref sig .tc := ⟨.hbm, 125, rfl⟩
abbrev main_call7_v0 : Ref sig .tc := ⟨.hbm, 126, rfl⟩
abbrev main_call7_v1 : Ref sig .tc := ⟨.hbm, 127, rfl⟩
abbrev main_c_19 : Ref sig .tc := ⟨.hbm, 128, rfl⟩
abbrev main_v57 : Ref sig .tc := ⟨.hbm, 129, rfl⟩
abbrev main_v58 : Ref sig .tc := ⟨.hbm, 130, rfl⟩
abbrev main_c_20 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_c_21 : Ref sig .tc := ⟨.hbm, 137, rfl⟩
abbrev main_call8_v0 : Ref sig .tc := ⟨.hbm, 138, rfl⟩
abbrev main_call8_v1 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v48 : Ref sig .tc := ⟨.smem, 0, rfl⟩
abbrev main_v23 : Ref sig .tc := ⟨.smem, 1, rfl⟩
abbrev main_v56 : Ref sig .tc := ⟨.smem, 2, rfl⟩
abbrev main_v64 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![112], ![false]⟩

abbrev pre0 : Pipeline.Prefetch sig := ⟨4, ![main_v48.idx, main_v23.idx, main_v56.idx, main_v64.idx], fun | 0 => main_v48.names | 1 => main_v23.names | 2 => main_v56.names | 3 => main_v64.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v3 : BitVec 32) : BitVec 1 :=
  let v10 : BitVec 1 := Scalar.cmpi .sgt v3 v1
  let v11 : BitVec 32 := Scalar.extui v10
  let c0_i32 : BitVec 32 := 0#32
  let v12 : BitVec 1 := Scalar.cmpi .ne v11 c0_i32
  v12

def cc0_transform_0 (k0_off1_inb : ∀ i : grid0.Coords, ∀ a, (k0_off1 i) a + S1.size a ≤ S112.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S112.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S112.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S112) ![v0.toNat] S1.size (k0_off1_inb i)) numel1_S1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S112.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S112) ![v0.toNat] S1.size (k0_off1_inb i)) numel1_S1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S112.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1408 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S98304x1408 : Shape := ⟨2, ![98304, 1408]⟩
abbrev S98304 : Shape := ⟨1, ![98304]⟩
abbrev S16x1408x2048 : Shape := ⟨3, ![16, 1408, 2048]⟩
abbrev S16x2048 : Shape := ⟨2, ![16, 2048]⟩
abbrev S16 : Shape := ⟨1, ![16]⟩
abbrev S98304x1 : Shape := ⟨2, ![98304, 1]⟩
abbrev S98304x2048 : Shape := ⟨2, ![98304, 2048]⟩
abbrev S1x2048 : Shape := ⟨2, ![1, 2048]⟩
abbrev S1 : Shape := ⟨1, ![1]⟩
abbrev S1x1408x2048 : Shape := ⟨3, ![1, 1408, 2048]⟩
abbrev S1408x2048 : Shape := ⟨2, ![1408, 2048]⟩

abbrev nBuf : Space → Nat
  | .hbm => 7
  | .vmem => 5
  | .smem => 1
  | _ => 0

abbrev bufTy : (tb : Table) → Fin (tcTables nBuf tb) → BufTy
  | .hbm, ⟨0, _⟩ => ⟨S98304x1408, .fp8e4m3⟩
  | .hbm, ⟨1, _⟩ => ⟨S98304, .f32⟩
  | .hbm, ⟨2, _⟩ => ⟨S16x1408x2048, .fp8e4m3⟩
  | .hbm, ⟨3, _⟩ => ⟨S16x2048, .f32⟩
  | .hbm, ⟨4, _⟩ => ⟨S16, .i32⟩
  | .hbm, ⟨5, _⟩ => ⟨S98304x1, .f32⟩
  | .hbm, ⟨6, _⟩ => ⟨S98304x2048, .bf16⟩
  | .local _ .vmem, ⟨0, _⟩ => ⟨S98304x1408, .fp8e4m3⟩
  | .local _ .vmem, ⟨1, _⟩ => ⟨S98304x1, .f32⟩
  | .local _ .vmem, ⟨2, _⟩ => ⟨S16x1408x2048, .fp8e4m3⟩
  | .local _ .vmem, ⟨3, _⟩ => ⟨S16x2048, .f32⟩
  | .local _ .vmem, ⟨4, _⟩ => ⟨S98304x2048, .bf16⟩
  | .local _ .smem, ⟨0, _⟩ => ⟨S16, .i32⟩
  | _, _ => ⟨S98304x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S98304x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S98304x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1408x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S98304x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Plan.lean ====
/-
  THE SCHEDULE IN NATURAL NUMBERS. The kernel visits, for each row tile of 1024 rows, each group whose rows meet the tile, one grid step per
  pair, in order of rows; what is left of the 112 grid steps does nothing. This module says what that schedule is, as functions of the group
  sizes, and proves the facts the rest of the proof uses: every tile index is below 96, tile indices never decrease along the grid, and every
  row lies in the range of one step, whose tile is the row's own. Nothing here names a program.
-/
module

public import Mathlib.Data.Nat.Basic
public import Mathlib.Tactic.Linarith
public import Mathlib.Data.List.Basic
public import Mathlib.Algebra.BigOperators.Group.List.Basic

@[expose] public section

namespace Cert.Plan

/-- The sum of the first `n` values of `f`. -/
def tot (f : Nat → Nat) (n : Nat) : Nat := ((List.range n).map f).sum

theorem tot_zero (f : Nat → Nat) : tot f 0 = 0 := rfl

theorem tot_succ (f : Nat → Nat) (n : Nat) : tot f (n + 1) = tot f n + f n := by
  simp [tot, List.range_succ]

theorem tot_le_succ (f : Nat → Nat) (n : Nat) : tot f n ≤ tot f (n + 1) := by
  rw [tot_succ]; omega

theorem tot_mono (f : Nat → Nat) {a b : Nat} (h : a ≤ b) : tot f a ≤ tot f b := by
  induction b with
  | zero => obtain rfl : a = 0 := by omega
            exact le_rfl
  | succ b ih =>
    rcases Nat.lt_or_ge a (b + 1) with h' | h'
    · exact (ih (by omega)).trans (tot_le_succ f b)
    · obtain rfl : a = b + 1 := by omega
      exact le_rfl

theorem tot_le (f : Nat → Nat) (n B : Nat) (h : ∀ i, i < n → f i ≤ B) : tot f n ≤ n * B := by
  induction n with
  | zero => simp [tot_zero]
  | succ n ih =>
    rw [tot_succ, Nat.succ_mul]
    exact Nat.add_le_add (ih fun i hi => h i (by omega)) (h n (by omega))

/-- The first index, below `n`, at which the running sum exceeds `w`. -/
theorem exists_step (f : Nat → Nat) (n w : Nat) (h : w < tot f n) : ∃ e, e < n ∧ tot f e ≤ w ∧ w < tot f (e + 1) := by
  induction n with
  | zero => simp [tot_zero] at h
  | succ n ih =>
    rcases Nat.lt_or_ge w (tot f n) with h' | h'
    · obtain ⟨e, he, h1, h2⟩ := ih h'
      exact ⟨e, by omega, h1, h2⟩
    · exact ⟨n, by omega, h', h⟩

section Schedule
variable (c : Nat → Nat)

/-- One past the last row of group `e`; the seventeenth group holds the rows no group owns. -/
def ends (e : Nat) : Nat := if e < 16 then min (tot c (e + 1)) 98304 else 98304

/-- The first row of group `e`. -/
def starts (e : Nat) : Nat := if e = 0 then 0 else ends c (e - 1)

/-- The tile of a group's first row. -/
def ft (e : Nat) : Nat := starts c e / 1024

/-- How many tiles the rows of group `e` meet. -/
def vis (e : Nat) : Nat := if starts c e < ends c e then (ends c e - 1) / 1024 - ft c e + 1 else 0

/-- The grid step at which the visits of group `e` end. -/
def ve (e : Nat) : Nat := tot (vis c) (e + 1)

/-- The group visited at grid step `w`: the number of groups whose visits are over; 17 when all are. -/
def grp (w : Nat) : Nat := tot (fun e => if ve c e ≤ w then 1 else 0) 17

/-- The tile visited at grid step `w`. -/
def tile (w : Nat) : Nat := if grp c w ≤ 16 then ft c (grp c w) + w - (ve c (grp c w) - vis c (grp c w)) else 95

/-- The first row of the step's group, and one past its last row: both 0 when nothing is left to visit. -/
def lo (w : Nat) : Nat := if grp c w ≤ 16 then starts c (grp c w) else 0
def hi (w : Nat) : Nat := if grp c w ≤ 16 then ends c (grp c w) else 0

theorem ends_le (e : Nat) : ends c e ≤ 98304 := by
  unfold ends; split
  · exact Nat.min_le_right _ _
  · exact le_rfl

theorem starts_le (e : Nat) : starts c e ≤ 98304 := by
  unfold starts; split
  · omega
  · exact ends_le c _

theorem starts_zero : starts c 0 = 0 := rfl

theorem starts_succ (e : Nat) : starts c (e + 1) = ends c e := rfl

theorem starts_le_ends (e : Nat) : starts c e ≤ ends c e := by
  cases e with
  | zero => rw [starts_zero]; omega
  | succ e =>
    rw [starts_succ]
    unfold ends
    have := tot_le_succ c (e + 1)
    split <;> split <;> first | omega | skip

theorem ends_mono {a b : Nat} (h : a ≤ b) : ends c a ≤ ends c b := by
  induction b with
  | zero => obtain rfl : a = 0 := by omega
            exact le_rfl
  | succ b ih =>
    rcases Nat.lt_or_ge a (b + 1) with h' | h'
    · refine (ih (by omega)).trans ?_
      rw [← starts_succ]; exact starts_le_ends c _
    · obtain rfl : a = b + 1 := by omega
      exact le_rfl

theorem ends_le_starts {a b : Nat} (h : a < b) : ends c a ≤ starts c b := by
  obtain ⟨b, rfl⟩ : ∃ b', b = b' + 1 := ⟨b - 1, by omega⟩
  rw [starts_succ]; exact ends_mono c (by omega)

theorem ve_succ (e : Nat) : ve c (e + 1) = ve c e + vis c (e + 1) := tot_succ _ _

theorem vis_le_ve (e : Nat) : vis c e ≤ ve c e := by
  unfold ve; rw [tot_succ]; omega

theorem ve_mono {a b : Nat} (h : a ≤ b) : ve c a ≤ ve c b := tot_mono _ (by omega)

theorem vis_le (e : Nat) : vis c e ≤ 96 := by
  unfold vis ft
  have h1 := ends_le c e
  split <;> omega

/-- The visits of the groups up to `e` are at most the tiles up to their last row, and one more for every boundary between groups. -/
theorem ve_le (e : Nat) : ve c e ≤ (ends c e + 1023) / 1024 + e := by
  induction e with
  | zero =>
    have : ve c 0 = vis c 0 := by unfold ve; rw [tot_succ, tot_zero, Nat.zero_add]
    rw [this]
    unfold vis ft
    rw [starts_zero]
    split <;> omega
  | succ e ih =>
    rw [ve_succ]
    have h1 := starts_le_ends c (e + 1)
    unfold vis ft
    rw [starts_succ] at h1 ⊢
    split <;> omega

theorem ve_16_le : ve c 16 ≤ 112 := by
  have := ve_le c 16
  have h : ends c 16 = 98304 := rfl
  rw [h] at this
  omega

theorem grp_le (w : Nat) : grp c w ≤ 17 := by
  refine (tot_le _ 17 1 fun i _ => ?_).trans (by omega)
  split <;> omega

/-- Before the `grp`-th group all visits are over, from it on none are. -/
theorem tot_ind (w n : Nat) :
    (tot (fun e => if ve c e ≤ w then 1 else 0) n ≤ n) ∧
    (∀ e, e < tot (fun e => if ve c e ≤ w then 1 else 0) n → ve c e ≤ w) ∧
    (∀ e, tot (fun e => if ve c e ≤ w then 1 else 0) n ≤ e → e < n → w < ve c e) := by
  induction n with
  | zero => exact ⟨le_rfl, fun e h => absurd h (Nat.not_lt_zero _), fun e _ h => absurd h (Nat.not_lt_zero _)⟩
  | succ n ih =>
    obtain ⟨h0, h1, h2⟩ := ih
    rw [tot_succ]
    by_cases hn : ve c n ≤ w
    · rw [if_pos hn]
      have hall : tot (fun e => if ve c e ≤ w then 1 else 0) n = n := by
        by_contra hne
        have := h2 _ le_rfl (by omega)
        have := ve_mono c h0
        omega
      rw [hall]
      refine ⟨le_rfl, fun e he => (ve_mono c (by omega)).trans hn, fun e he he' => by omega⟩
    · rw [if_neg hn]
      refine ⟨by omega, fun e he => h1 e (by omega), fun e he he' => ?_⟩
      rcases Nat.lt_or_ge e n with h | h
      · exact h2 e (by omega) h
      · obtain rfl : e = n := by omega
        omega

theorem ve_of_lt_grp {w e : Nat} (h : e < grp c w) : ve c e ≤ w := (tot_ind c w 17).2.1 e h

theorem lt_ve_of_grp_le {w e : Nat} (h : grp c w ≤ e) (he : e < 17) : w < ve c e := (tot_ind c w 17).2.2 e h he

/-- Where a step has a group, its place among the group's visits. -/
theorem grp_step {w : Nat} (h : grp c w ≤ 16) : ve c (grp c w) - vis c (grp c w) ≤ w ∧ w < ve c (grp c w) := by
  refine ⟨?_, lt_ve_of_grp_le c le_rfl (by omega)⟩
  rcases Nat.eq_zero_or_pos (grp c w) with h0 | h0
  · rw [h0]
    have : ve c 0 = vis c 0 := by unfold ve; rw [tot_succ, tot_zero, Nat.zero_add]
    omega
  · obtain ⟨g, hg⟩ : ∃ g, grp c w = g + 1 := ⟨grp c w - 1, by omega⟩
    have h1 := ve_of_lt_grp c (w := w) (e := g) (by omega)
    rw [hg, ve_succ]; omega

/-- A step within the visits of group `e` has that group. -/
theorem grp_eq {w e : Nat} (he : e < 17) (h1 : ve c e - vis c e ≤ w) (h2 : w < ve c e) : grp c w = e := by
  apply Nat.le_antisymm
  · by_contra hlt
    have := ve_of_lt_grp c (w := w) (e := e) (by omega)
    omega
  · by_contra hlt
    have h3 := lt_ve_of_grp_le c (w := w) le_rfl (by omega)
    have : ve c (grp c w) ≤ ve c e - vis c e := by
      obtain ⟨e', rfl⟩ : ∃ e', e = e' + 1 := ⟨e - 1, by omega⟩
      rw [ve_succ]
      have := ve_mono c (a := grp c w) (b := e') (by omega)
      omega
    omega

/-- A step with a group: the group is not empty, and the tile meets the group's rows. -/
theorem tile_bounds {w : Nat} (h : grp c w ≤ 16) :
    starts c (grp c w) < ends c (grp c w) ∧ ft c (grp c w) ≤ tile c w ∧ tile c w ≤ (ends c (grp c w) - 1) / 1024 := by
  obtain ⟨h1, h2⟩ := grp_step c h
  have hv := vis_le_ve c (grp c w)
  have hlt : starts c (grp c w) < ends c (grp c w) := by
    by_contra hc
    have : vis c (grp c w) = 0 := by unfold vis; rw [if_neg hc]
    omega
  have hvis : vis c (grp c w) = (ends c (grp c w) - 1) / 1024 - ft c (grp c w) + 1 := by unfold vis; rw [if_pos hlt]
  have hft : ft c (grp c w) ≤ (ends c (grp c w) - 1) / 1024 := by unfold ft; omega
  unfold tile
  rw [if_pos h]
  exact ⟨hlt, by omega, by omega⟩

/-- Every tile index is below 96. -/
theorem tile_lt (w : Nat) : tile c w < 96 := by
  by_cases h : grp c w ≤ 16
  · have := tile_bounds c h
    have := ends_le c (grp c w)
    omega
  · unfold tile; rw [if_neg h]; omega

theorem grp_mono {w w' : Nat} (h : w ≤ w') : grp c w ≤ grp c w' := by
  by_contra hlt
  have h1 := ve_of_lt_grp c (w := w) (e := grp c w') (by omega)
  have h2 := lt_ve_of_grp_le c (w := w') (e := grp c w') le_rfl (by have := grp_le c w; omega)
  omega

/-- Tile indices never decrease along the grid. -/
theorem tile_mono {w w' : Nat} (h : w ≤ w') : tile c w ≤ tile c w' := by
  by_cases h' : grp c w' ≤ 16
  · have hg := grp_mono c h
    have hw : grp c w ≤ 16 := by omega
    rcases Nat.lt_or_ge (grp c w) (grp c w') with hlt | hge
    · have h1 := tile_bounds c hw
      have h2 := tile_bounds c h'
      have h3 := ends_le_starts c hlt
      unfold ft at h1 h2
      omega
    · have he : grp c w = grp c w' := by omega
      have h1 := grp_step c hw
      unfold tile
      rw [if_pos hw, if_pos h', he]
      rw [he] at h1
      omega
  · have := tile_lt c w
    have : tile c w' = 95 := by unfold tile; rw [if_neg h']
    omega

/-- The group that holds row `r`: the least whose end is past it. -/
theorem exists_group {r : Nat} (hr : r < 98304) : ∃ e, e < 17 ∧ starts c e ≤ r ∧ r < ends c e := by
  have key : ∀ n, n < 17 → r < ends c n → ∃ e, e < 17 ∧ starts c e ≤ r ∧ r < ends c e := by
    intro n
    induction n with
    | zero => intro h0 h; exact ⟨0, by omega, by rw [starts_zero]; omega, h⟩
    | succ n ih =>
      intro h0 h
      rcases Nat.lt_or_ge r (ends c n) with h' | h'
      · exact ih (by omega) h'
      · exact ⟨n + 1, h0, by rw [starts_succ]; exact h', h⟩
  exact key 16 (by omega) hr

/-- Every row is in the range of a step whose tile is the row's. -/
theorem cover {r : Nat} (hr : r < 98304) : ∃ w, w < 112 ∧ tile c w = r / 1024 ∧ lo c w ≤ r ∧ r < hi c w := by
  obtain ⟨e, he, h1, h2⟩ := exists_group c hr
  have hlt : starts c e < ends c e := by omega
  have hvis : vis c e = (ends c e - 1) / 1024 - ft c e + 1 := by unfold vis; rw [if_pos hlt]
  have hv := vis_le_ve c e
  have hft : ft c e ≤ r / 1024 := by unfold ft; omega
  have hre : r / 1024 ≤ (ends c e - 1) / 1024 := by omega
  have hg : grp c (ve c e - vis c e + (r / 1024 - ft c e)) = e := grp_eq c he (by omega) (by omega)
  refine ⟨ve c e - vis c e + (r / 1024 - ft c e), ?_, ?_, ?_, ?_⟩
  · have := ve_mono c (a := e) (b := 16) (by omega)
    have := ve_16_le c
    omega
  · unfold tile; rw [hg, if_pos (by omega)]; omega
  · unfold lo; rw [hg, if_pos (by omega)]; exact h1
  · unfold hi; rw [hg, if_pos (by omega)]; exact h2

theorem lo_le (w : Nat) : lo c w ≤ 98304 := by unfold lo; split; exact starts_le c _; omega
theorem hi_le (w : Nat) : hi c w ≤ 98304 := by unfold hi; split; exact ends_le c _; omega

/-- A step whose range is not empty has a group. -/
theorem grp_of_lt {w : Nat} (h : lo c w < hi c w) : grp c w ≤ 16 := by
  by_contra hc
  unfold hi at h; rw [if_neg hc] at h; omega

end Schedule

end Cert.Plan
-- ==== Proof.Words.lean ====
/-
  THE SCHEDULE IN MACHINE WORDS, one operation at a time: where the vectors an operation of the host's plan reads hold the natural numbers of
  the schedule (Plan.lean), the vector it writes holds the next ones. All the numbers are below 2 ^ 31, so no word wraps. Nothing here names a
  program.
-/
module

public import proofs.«01_k».proof.Proof.Plan
public import Idealize.ShloMosaic.Lib.Routing.OpsSearch
public import Idealize.ShloMosaic.Lib.Routing.OneHot
public import Idealize.ShloMosaic.Lib.Routing.Count
public import Idealize.ShloMosaic.Lib.WordCmp
public import Idealize.ShloMosaic.Lib.PlanTiles.Rows
public import Idealize.ShloMosaic.Lib.PointwiseCore

@[expose] public section

noncomputable section

namespace Cert.Words

open Idealize.ShloMosaic
open Idealize.ShloMosaic.WordCmp
open Idealize.ShloMosaic.Routing (shape0 shape1 shape2 cumsum1 pyDiv pyDiv_ap take_ap bc0 bcCol bcRows bcCols slice1 addi_ap subi_ap ofNat32_sub)
open Idealize.ShloMosaic.PlanTiles (minsi_word)

/-- The vector of words `x` holds the naturals `f`. -/
abbrev Holds {n : Nat} (x : IVec (shape1 n) 32) (f : Nat → Nat) : Prop := ∀ e : Fin n, x (ValueIdx.ix1 e) = BitVec.ofNat 32 (f e.val)

variable (c : Nat → Nat)

/-- A vector of one constant word. -/
theorem const_at {s : Shape} (hb : shape0.BroadcastsInDim s (![] : Fin 0 → Fin s.rank)) (v : IVec shape0 32) (k : BitVec 32) (hv : v ValueIdx.ix0 = k) (i : s.Idx) :
    broadcastInDim s ![] hb v i = k := (bc0 hb v i).trans hv

/-- A join of two vectors, read at an index. -/
theorem concat_at {a b n : Nat} (hn : a + b = n) (x : IVec (shape1 a) 32) (y : IVec (shape1 b) 32)
    (h : Shape.Concatenates [shape1 a, shape1 b] (shape1 n) 0) (f : Nat → Nat) (hx : Holds x f) (hy : ∀ i : Fin b, y (ValueIdx.ix1 i) = BitVec.ofNat 32 (f (a + i.val))) :
    Holds (concatenate (shape1 n) 0 [⟨shape1 a, x⟩, ⟨shape1 b, y⟩] h) f := by
  intro e
  rcases Nat.lt_or_ge e.val a with hlt | hge
  · refine (concatenate_pair_apply_left 0 x y h (ValueIdx.ix1 e) rfl (ValueIdx.ix1 ⟨e.val, hlt⟩) fun d => ?_).trans (hx ⟨e.val, hlt⟩)
    match d with
    | ⟨0, _⟩ => rfl
  · have he := e.isLt
    refine (concatenate_pair_apply_right 0 x y h (ValueIdx.ix1 e) rfl rfl (ValueIdx.ix1 ⟨e.val - a, by omega⟩) (fun d hd => ?_) ?_).trans ((hy ⟨e.val - a, by omega⟩).trans ?_)
    · exact absurd (Subsingleton.elim _ _) hd
    · have h2 : e.val = e.val - a + a := by omega
      exact h2.symm
    · show BitVec.ofNat 32 (f (a + (e.val - a))) = _
      rw [show a + (e.val - a) = e.val by omega]

variable {c}

/-- Running totals of the group sizes. -/
theorem totals {x : IVec (shape1 16) 32} (hx : Holds x c) (init : IVec shape0 32) (hinit : init ValueIdx.ix0 = 0#32) {h : (shape1 16).ReduceWindows (![16] : Fin 1 → Nat) ![1] ![15] ![0] (shape1 16)} {hu : 0 < shape0.numel} :
    Holds (n := 16) (Host.reduceWindow IntOp.addi ![16] ![1] ![15] ![0] x init h hu) (fun e => Plan.tot c (e + 1)) :=
  fun e => cumsum1 (N := 16) (Nm1 := 15) rfl x c hx init hinit h hu e

theorem tot_lt (hc : ∀ e, e < 16 → c e ≤ 98304) {n : Nat} (hn : n ≤ 16) : Plan.tot c n < 2 ^ 31 := by
  have := Plan.tot_le c n 98304 fun i hi => hc i (by omega)
  have : n * 98304 ≤ 16 * 98304 := Nat.mul_le_mul_right _ hn
  omega

/-- One past the last row of each group. -/
theorem ends_at (hc : ∀ e, e < 16 → c e ≤ 98304) {x : IVec (shape1 16) 32} (hx : Holds x (fun e => Plan.tot c (e + 1)))
    {k16 : IVec (shape1 16) 32} (h16 : ∀ e, k16 e = 98304#32) {k1 : IVec (shape1 1) 32} (h1 : ∀ e, k1 e = 98304#32) {h} :
    Holds (n := 17) (concatenate (shape1 17) 0 [⟨shape1 16, minsi x k16⟩, ⟨shape1 1, k1⟩] h) (Plan.ends c) := by
  refine concat_at (a := 16) (b := 1) rfl _ _ _ _ (fun e => ?_) fun e => ?_
  · show IntOp.minsi (x (ValueIdx.ix1 e)) (k16 (ValueIdx.ix1 e)) = _
    have he := e.isLt
    rw [hx, h16, show (98304#32 : BitVec 32) = BitVec.ofNat 32 98304 from rfl, minsi_word (tot_lt hc (by omega)) (by decide), Nat.min_comm]
    unfold Plan.ends
    rw [if_pos e.isLt]
  · rw [h1]
    unfold Plan.ends
    rw [if_neg (by omega)]

/-- The first row of each group. -/
theorem starts_at {x : IVec (shape1 17) 32} (hx : Holds x (Plan.ends c)) {k1 : IVec (shape1 1) 32} (h1 : ∀ e, k1 e = 0#32) {hs h} :
    Holds (n := 17) (concatenate (shape1 17) 0 [⟨shape1 1, k1⟩, ⟨shape1 16, extractStridedSlice (shape1 16) ![0] x hs⟩] h) (Plan.starts c) := by
  refine concat_at (a := 1) (b := 16) rfl _ _ _ _ (fun e => ?_) fun e => ?_
  · rw [h1, show e.val = 0 by omega]
    rfl
  · have he := e.isLt
    rw [slice1 0 x hs e (by omega), hx, Nat.add_comm 1, Plan.starts_succ]
    exact congrArg (fun n => BitVec.ofNat 32 (Plan.ends c n)) (Nat.zero_add _)

/-- The tile of a group's first row. -/
theorem ft_at {x : IVec (shape1 17) 32} (hx : Holds x (Plan.starts c)) {d : IVec shape0 32} (hd : d ValueIdx.ix0 = 1024#32) {hb} :
    Holds (pyDiv (s := shape1 17) hb x d) (Plan.ft c) := by
  intro e
  have := Plan.starts_le c e.val
  exact pyDiv_ap hb x d _ (hx e) hd (by omega) (by decide) (by decide)

/-- Whether a group has a row. -/
theorem some_at {x y : IVec (shape1 17) 32} (hx : Holds x (Plan.ends c)) (hy : Holds y (Plan.starts c)) (e : Fin 17) :
    cmpi .sgt x y (ValueIdx.ix1 e) = BitVec.ofBool (decide (Plan.starts c e.val < Plan.ends c e.val)) := by
  have := Plan.starts_le c e.val
  have := Plan.ends_le c e.val
  rw [cmpi_at, hx, hy, cmpi_sgt_ofNat (by omega) (by omega)]

/-- The tile of a group's last row, for a group with a row. -/
theorem lt_at {x k : IVec (shape1 17) 32} (hx : Holds x (Plan.ends c)) (hk : ∀ e, k e = 1#32) {d : IVec shape0 32} (hd : d ValueIdx.ix0 = 1024#32) {hb}
    (e : Fin 17) (he : Plan.starts c e.val < Plan.ends c e.val) :
    pyDiv (s := shape1 17) hb (subi x k) d (ValueIdx.ix1 e) = BitVec.ofNat 32 ((Plan.ends c e.val - 1) / 1024) := by
  have := Plan.ends_le c e.val
  refine pyDiv_ap hb _ d _ (a := Plan.ends c e.val - 1) ?_ hd (by omega) (by decide) (by decide)
  rw [subi_ap, hx, hk, show (1#32 : BitVec 32) = BitVec.ofNat 32 1 from rfl, ofNat32_sub (by omega)]

/-- How many tiles a group's rows meet. -/
theorem vis_at {b : IVec (shape1 17) 1} (hb : ∀ e : Fin 17, b (ValueIdx.ix1 e) = BitVec.ofBool (decide (Plan.starts c e.val < Plan.ends c e.val)))
    {l f k z : IVec (shape1 17) 32} (hl : ∀ e : Fin 17, Plan.starts c e.val < Plan.ends c e.val → l (ValueIdx.ix1 e) = BitVec.ofNat 32 ((Plan.ends c e.val - 1) / 1024))
    (hf : Holds f (Plan.ft c)) (hk : ∀ e, k e = 1#32) (hz : ∀ e, z e = 0#32) :
    Holds (select b (addi (subi l f) k) z) (Plan.vis c) := by
  intro e
  rw [select_at, hb]
  unfold Plan.vis
  by_cases h : Plan.starts c e.val < Plan.ends c e.val
  · have hle : Plan.ft c e.val ≤ (Plan.ends c e.val - 1) / 1024 := by unfold Plan.ft; omega
    rw [if_pos h, decide_eq_true h, addi_ap, subi_ap, hl e h, hf, hk, ofNat32_sub hle]
    exact (BitVec.ofNat_add _ _).symm
  · rw [if_neg h, decide_eq_false h, hz]
    rfl

/-- The step at which a group's visits end. -/
theorem ve_at {x : IVec (shape1 17) 32} (hx : Holds x (Plan.vis c)) (init : IVec shape0 32) (hinit : init ValueIdx.ix0 = 0#32) {h : (shape1 17).ReduceWindows (![17] : Fin 1 → Nat) ![1] ![16] ![0] (shape1 17)} {hu : 0 < shape0.numel} :
    Holds (n := 17) (Host.reduceWindow IntOp.addi ![17] ![1] ![16] ![0] x init h hu) (Plan.ve c) :=
  fun e => cumsum1 (N := 17) (Nm1 := 16) rfl x (Plan.vis c) hx init hinit h hu e

theorem ve_lt {e : Nat} (he : e ≤ 16) : Plan.ve c e ≤ 112 := (Plan.ve_mono c he).trans (Plan.ve_16_le c)

/-- The group of each grid step. -/
theorem grp_at {x : IVec (shape1 17) 32} (hx : Holds x (Plan.ve c)) {y : IVec (shape1 112) 32} (hy : Holds y id) {h₁ h₂ h₃ h₄ hw} {h : (shape2 17 112).ReducesTo [0] (shape1 112)} {hu : 0 < shape0.numel} {z : IVec shape0 32} (hz : z = constantI shape0 32 0#32) :
    Holds (n := 112) (Host.reduce IntOp.addi (extui 32 (cmpi .sle
        (broadcastInDim (shape2 17 112) ![0, 1] h₂ (broadcastInDim (shape2 17 1) ![0] h₁ x))
        (broadcastInDim (shape2 17 112) ![0, 1] h₄ (broadcastInDim (shape2 1 112) ![1] h₃ y))) hw) z h hu)
      (Plan.grp c) := by
  intro w
  subst hz
  have hred := StableHlo.Predicate.toNat_reduce_count_rows (n := 17) (m := 112) (by decide) (cmpi .sle
        (broadcastInDim (shape2 17 112) ![0, 1] h₂ (broadcastInDim (shape2 17 1) ![0] h₁ x))
        (broadcastInDim (shape2 17 112) ![0, 1] h₄ (broadcastInDim (shape2 1 112) ![1] h₃ y))) hw h hu (ValueIdx.ix1 w)
  refine BitVec.eq_of_toNat_eq (hred.trans ?_)
  have hg := Plan.grp_le c w.val
  rw [BitVec.toNat_ofNat, Nat.mod_eq_of_lt (by omega)]
  have hcount : Plan.grp c w.val = Nat.count (fun e => Plan.ve c e ≤ w.val) 17 := Routing.sum_map_ite _ _
  rw [hcount, ← Routing.card_filter_fin 17]
  refine congrArg Finset.card (Finset.filter_congr fun e _ => ?_)
  have h1 : Plan.ve c e.val ≤ 112 := ve_lt (by have := e.isLt; omega)
  have h2 := w.isLt
  have hy' : y (ValueIdx.ix1 w) = BitVec.ofNat 32 w.val := hy w
  refine (iff_of_eq (congrArg (fun q : (shape2 17 112).Idx => cmpi .sle
        (broadcastInDim (shape2 17 112) ![0, 1] h₂ (broadcastInDim (shape2 17 1) ![0] h₁ x))
        (broadcastInDim (shape2 17 112) ![0, 1] h₄ (broadcastInDim (shape2 1 112) ![1] h₃ y)) q = 1#1) (Routing.ij_eq_ix2 e w))).trans ?_
  rw [cmpi_at, bcRows, bcCols, hx, hy', cmpi_sle_ofNat (w := 32) (by omega) (by omega), ofBool_decide_eq_one_iff]

/-- Whether a grid step has a group. -/
theorem live_at {x k : IVec (shape1 112) 32} (hx : Holds x (Plan.grp c)) (hk : ∀ e, k e = 16#32) (w : Fin 112) :
    cmpi .sle x k (ValueIdx.ix1 w) = BitVec.ofBool (decide (Plan.grp c w.val ≤ 16)) := by
  have := Plan.grp_le c w.val
  rw [cmpi_at, hx, hk, show (16#32 : BitVec 32) = BitVec.ofNat 32 16 from rfl, cmpi_sle_ofNat (by omega) (by omega)]

/-- The group of each grid step, no more than 16. -/
theorem gi_at {x k : IVec (shape1 112) 32} (hx : Holds x (Plan.grp c)) (hk : ∀ e, k e = 16#32) :
    Holds (minsi x k) (fun w => min (Plan.grp c w) 16) := by
  intro w
  have := Plan.grp_le c w.val
  show IntOp.minsi (x (ValueIdx.ix1 w)) (k (ValueIdx.ix1 w)) = _
  rw [hx, hk, show (16#32 : BitVec 32) = BitVec.ofNat 32 16 from rfl, minsi_word (by omega) (by decide), Nat.min_comm]

/-- A table over the groups, taken at each grid step's group. -/
theorem take_at {T : Nat → Nat} {t : IVec (shape1 17) 32} (ht : Holds t T) {g k z : IVec (shape1 112) 32} (hg : Holds g (fun w => min (Plan.grp c w) 16)) (hz : ∀ e, z e = 0#32)
    (d : GatherDims (shape1 17) (shape2 112 1) (shape1 112)) (hcoll : d.collapsedSliceDims = [0]) (hob : d.operandBatchingDims = [])
    (hsim : d.startIndexMap = [0]) (hivd : d.indexVectorDim = 1) {h₁} :
    Holds (Host.gather d t (broadcastInDim (shape2 112 1) ![0] h₁ (select (cmpi .slt g z) (addi g k) g))) (fun w => T (min (Plan.grp c w) 16)) := by
  intro w
  refine (take_ap d hcoll hob hsim hivd t _ w (k := min (Plan.grp c w.val) 16) (by omega) (by omega) ?_).trans (ht _)
  have hg' : g (ValueIdx.ix1 w) = BitVec.ofNat 32 (min (Plan.grp c w.val) 16) := hg w
  rw [bcCol, select_at, cmpi_at, hg', hz, show (0#32 : BitVec 32) = BitVec.ofNat 32 0 from rfl, cmpi_slt_ofNat (by omega) (by omega)]
  rw [decide_eq_false (by omega)]
  rfl

/-- Where a step has a group its value, else a constant. -/
theorem where_at {b : IVec (shape1 112) 1} (hb : ∀ w : Fin 112, b (ValueIdx.ix1 w) = BitVec.ofBool (decide (Plan.grp c w.val ≤ 16)))
    {x z : IVec (shape1 112) 32} {k : Nat} {f : Nat → Nat} (hx : ∀ w : Fin 112, Plan.grp c w.val ≤ 16 → x (ValueIdx.ix1 w) = BitVec.ofNat 32 (f w.val)) (hz : ∀ e, z e = BitVec.ofNat 32 k) :
    Holds (select b x z) (fun w => if Plan.grp c w ≤ 16 then f w else k) := by
  intro w
  rw [select_at, hb]
  by_cases h : Plan.grp c w.val ≤ 16
  · refine Eq.trans ?_ (congrArg (BitVec.ofNat 32) (if_pos h).symm)
    rw [decide_eq_true h, ← hx w h]; rfl
  · refine Eq.trans ?_ (congrArg (BitVec.ofNat 32) (if_neg h).symm)
    rw [decide_eq_false h, hz]; rfl

/-- The tile of each grid step. -/
theorem tile_at {a v1 v2 w' : IVec (shape1 112) 32} (ha : Holds a (fun w => Plan.ft c (min (Plan.grp c w) 16))) (hw : Holds w' id)
    (h1 : Holds v1 (fun w => Plan.ve c (min (Plan.grp c w) 16))) (h2 : Holds v2 (fun w => Plan.vis c (min (Plan.grp c w) 16))) (w : Fin 112) (h : Plan.grp c w.val ≤ 16) :
    subi (addi a w') (subi v1 v2) (ValueIdx.ix1 w)
      = BitVec.ofNat 32 (Plan.ft c (Plan.grp c w.val) + w.val - (Plan.ve c (Plan.grp c w.val) - Plan.vis c (Plan.grp c w.val))) := by
  have hm : min (Plan.grp c w.val) 16 = Plan.grp c w.val := by omega
  have hv := Plan.vis_le_ve c (Plan.grp c w.val)
  have hs := Plan.grp_step c h
  rw [subi_ap, addi_ap, subi_ap, ha, hw, h1, h2]
  dsimp only [id]
  rw [hm, ofNat32_sub hv, ← BitVec.ofNat_add, ofNat32_sub (by omega)]

end Cert.Words
-- ==== Proof.KernelTables.lean ====
/-
  THE TABLES THE KERNEL READS: what the host operations before the kernel leave in the four tables of the schedule (Plan.lean) and in the two
  reshaped scale arrays, operation by operation (Words.lean), from the group sizes.
-/
module

public import proofs.«01_k».proof.Proof.Words
public import proofs.«01_k».proof.Proof.Gen.Kernel.Launch
public import Idealize.ShloMosaic.Lib.StableHlo.ReadAt

@[expose] public section

set_option maxRecDepth 16384

noncomputable section

namespace Cert.Kernel.Tables

open Cert.Kernel.Gen
open Idealize.ShloMosaic Idealize.ShloMosaic.TcCoe
open Idealize.ShloMosaic.Routing (pyDiv)
open Cert.Words (Holds)

variable {F : FTy → Type} [FloatOps F]

/-- What a device's buffer holds in the contents `σ`. -/
abbrev at' (σ : Valuation τ sig (Elt F)) (r : Ref sig .tc) := σ (Proc.devRef .tc r)

variable (σ : Valuation τ sig (Elt F)) {c : Nat → Nat}

/-! ## What each stretch of host operations leaves alone -/

theorem keep_0 {r : Ref sig .tc} (hr : r ∉ [main_call0_call0_c, main_call0_call0_v0, main_v0]) : at' (StableHlo.after hostOps0 σ) r = at' σ r :=
  StableHlo.after_unwritten _ rfl hr σ

theorem keep_1 {r : Ref sig .tc} (hr : r ∉ [main_c, main_v1, main_v2, main_c_0, main_v3, main_v4, main_c_1, main_v5, main_v6, main_v7, main_c_2]) : at' (StableHlo.after hostOps0_1 σ) r = at' σ r :=
  StableHlo.after_unwritten _ rfl hr σ

theorem keep_2 {r : Ref sig .tc} (hr : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v8]) : at' (StableHlo.after hostOps0_2 σ) r = at' σ r :=
  StableHlo.after_unwritten _ rfl hr σ

theorem keep_3 {r : Ref sig .tc} (hr : r ∉ [main_v9, main_c_3, main_v10, main_v11, main_c_4]) : at' (StableHlo.after hostOps0_3 σ) r = at' σ r :=
  StableHlo.after_unwritten _ rfl hr σ

theorem keep_4 {r : Ref sig .tc} (hr : r ∉ [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v12]) : at' (StableHlo.after hostOps0_4 σ) r = at' σ r :=
  StableHlo.after_unwritten _ rfl hr σ

theorem keep_5 {r : Ref sig .tc} (hr : r ∉ [main_v13, main_c_5, main_v14, main_v15, main_c_6]) : at' (StableHlo.after hostOps0_5 σ) r = at' σ r :=
  StableHlo.after_unwritten _ rfl hr σ

theorem keep_6 {r : Ref sig .tc} (hr : r ∉ [main_call3_v0, main_call3_v1, main_v16]) : at' (StableHlo.after hostOps0_6 σ) r = at' σ r :=
  StableHlo.after_unwritten _ rfl hr σ

theorem keep_7 {r : Ref sig .tc} (hr : r ∉ [main_call4_call0_c, main_call4_call0_v0, main_v17]) : at' (StableHlo.after hostOps0_7 σ) r = at' σ r :=
  StableHlo.after_unwritten _ rfl hr σ

theorem keep_8 {r : Ref sig .tc} (hr : r ∉ [main_v18]) : at' (StableHlo.after hostOps0_8 σ) r = at' σ r :=
  StableHlo.after_unwritten _ rfl hr σ

theorem keep_9 {r : Ref sig .tc} (hr : r ∉ [main_call5_call0_v0, main_call5_call0_v1, main_call5_call0_v2, main_call5_call0_v3, main_call5_call0_v4, main_call5_call0_v5, main_call5_call0_c, main_v19]) : at' (StableHlo.after hostOps0_9 σ) r = at' σ r :=
  StableHlo.after_unwritten _ rfl hr σ

theorem keep_10 {r : Ref sig .tc} (hr : r ∉ [main_c_7, main_v20, main_v21, main_c_8, main_v22, main_v23, main_c_9, main_v24, main_v25, main_c_10, main_v26, main_v27, main_v28, main_v29, main_v30, main_v31, main_c_11, main_v32, main_v33, main_c_12, main_v34, main_v35, main_v36, main_v37, main_v38, main_c_13, main_v39, main_v40, main_c_14, main_v41, main_v42, main_v43, main_v44, main_v45, main_v46, main_v47, main_c_15]) : at' (StableHlo.after hostOps0_10 σ) r = at' σ r :=
  StableHlo.after_unwritten _ rfl hr σ

theorem keep_11 {r : Ref sig .tc} (hr : r ∉ [main_call6_v0, main_call6_v1, main_v48]) : at' (StableHlo.after hostOps0_11 σ) r = at' σ r :=
  StableHlo.after_unwritten _ rfl hr σ

theorem keep_12 {r : Ref sig .tc} (hr : r ∉ [main_c_16, main_v49, main_v50, main_c_17, main_v51, main_v52, main_v53, main_v54, main_v55, main_c_18]) : at' (StableHlo.after hostOps0_12 σ) r = at' σ r :=
  StableHlo.after_unwritten _ rfl hr σ

theorem keep_13 {r : Ref sig .tc} (hr : r ∉ [main_call7_v0, main_call7_v1, main_v56]) : at' (StableHlo.after hostOps0_13 σ) r = at' σ r :=
  StableHlo.after_unwritten _ rfl hr σ

theorem keep_14 {r : Ref sig .tc} (hr : r ∉ [main_c_19, main_v57, main_v58, main_c_20, main_v59, main_v60, main_v61, main_v62, main_v63, main_c_21]) : at' (StableHlo.after hostOps0_14 σ) r = at' σ r :=
  StableHlo.after_unwritten _ rfl hr σ

theorem keep_15 {r : Ref sig .tc} (hr : r ∉ [main_call8_v0, main_call8_v1, main_v64]) : at' (StableHlo.after hostOps0_15 σ) r = at' σ r :=
  StableHlo.after_unwritten _ rfl hr σ

theorem keep_16 {r : Ref sig .tc} (hr : r ∉ [main_v65, main_v66]) : at' (StableHlo.after hostOps0_16 σ) r = at' σ r :=
  StableHlo.after_unwritten _ rfl hr σ

/-! ## What each stretch computes -/

theorem v0_at (h : Holds (n := 16) (at' σ main_arg4) c) :
    Holds (n := 16) (at' (StableHlo.after hostOps0 σ) main_v0) (fun e => Plan.tot c (e + 1)) := by
  after_reads_simp
  simp -implicitDefEqProofs only [StableHlo.TRef.toBuf, StableHlo.TRef.ofBuf, cast_cast, cast_eq]
  exact Words.totals (h := reduceWindows_S16_S16_w16s1p15_0) (hu := h_S_) h (broadcastInDim S_ ![] bcast_S_S_ (constantI S_ 32 0#32)) (Words.const_at bcast_S_S_ (constantI S_ 32 0#32) 0#32 rfl ValueIdx.ix0)

theorem v4_at (hc : ∀ e, e < 16 → c e ≤ 98304) (h : Holds (n := 16) (at' σ main_v0) (fun e => Plan.tot c (e + 1))) :
    Holds (n := 17) (at' (StableHlo.after hostOps0_1 σ) main_v4) (Plan.ends c) := by
  after_reads_simp
  exact Words.ends_at (k16 := broadcastInDim S16 ![] bcast_S_S16 (constantI S_ 32 98304#32)) (k1 := broadcastInDim S1 ![] bcast_S_S1 (constantI S_ 32 98304#32))
    (h := concatenates_S16_S1_S17_d0) hc h (Words.const_at _ _ _ rfl) (Words.const_at _ _ _ rfl)

theorem v7_at (hc : ∀ e, e < 16 → c e ≤ 98304) (h : Holds (n := 16) (at' σ main_v0) (fun e => Plan.tot c (e + 1))) :
    Holds (n := 17) (at' (StableHlo.after hostOps0_1 σ) main_v7) (Plan.starts c) := by
  after_reads_simp
  have h4 := Words.ends_at (k16 := broadcastInDim S16 ![] bcast_S_S16 (constantI S_ 32 98304#32)) (k1 := broadcastInDim S1 ![] bcast_S_S1 (constantI S_ 32 98304#32))
    (h := concatenates_S16_S1_S17_d0) hc h (Words.const_at _ _ _ rfl) (Words.const_at _ _ _ rfl)
  have h7 := Words.starts_at (k1 := broadcastInDim S1 ![] bcast_S_S1 (constantI S_ 32 0#32)) (hs := slices_S17_S16_0) (h := concatenates_S1_S16_S17_d0) h4 (Words.const_at _ _ _ rfl)
  exact h7

theorem main_c_2_at  :
    (at' (StableHlo.after hostOps0_1 σ) main_c_2 : IVec S_ 32) = constantI S_ 32 1024#32 := by
  after_reads_simp

theorem v8_at (h : Holds (n := 17) (at' σ main_v7) (Plan.starts c)) (hk : (at' σ main_c_2 : IVec S_ 32) = constantI S_ 32 1024#32) :
    Holds (n := 17) (at' (StableHlo.after hostOps0_2 σ) main_v8) (Plan.ft c) := by
  after_reads_simp
  exact Words.ft_at (hb := bcast_S_S17) h (d := at' σ main_c_2) (by rw [hk]; rfl)

theorem v9_at (h4 : Holds (n := 17) (at' σ main_v4) (Plan.ends c)) (h7 : Holds (n := 17) (at' σ main_v7) (Plan.starts c)) (e : Fin 17) :
    (at' (StableHlo.after hostOps0_3 σ) main_v9 : IVec S17 1) (ValueIdx.ix1 e) = BitVec.ofBool (decide (Plan.starts c e.val < Plan.ends c e.val)) := by
  after_reads_simp
  exact Words.some_at h4 h7 e

theorem v11_at  :
    (at' (StableHlo.after hostOps0_3 σ) main_v11 : IVec S17 32) = subi (at' σ main_v4) (broadcastInDim S17 ![] bcast_S_S17 (constantI S_ 32 1#32)) := by
  after_reads_simp

theorem main_c_4_at  :
    (at' (StableHlo.after hostOps0_3 σ) main_c_4 : IVec S_ 32) = constantI S_ 32 1024#32 := by
  after_reads_simp

theorem v12_at {v4 : IVec S17 32} (h4 : Holds (n := 17) v4 (Plan.ends c)) (h11 : (at' σ main_v11 : IVec S17 32) = subi v4 (broadcastInDim S17 ![] bcast_S_S17 (constantI S_ 32 1#32))) (hk : (at' σ main_c_4 : IVec S_ 32) = constantI S_ 32 1024#32)
    (e : Fin 17) (he : Plan.starts c e.val < Plan.ends c e.val) :
    (at' (StableHlo.after hostOps0_4 σ) main_v12 : IVec S17 32) (ValueIdx.ix1 e) = BitVec.ofNat 32 ((Plan.ends c e.val - 1) / 1024) := by
  have h := Words.lt_at (hb := bcast_S_S17) h4 (k := broadcastInDim S17 ![] bcast_S_S17 (constantI S_ 32 1#32)) (Words.const_at _ _ _ rfl) (d := at' σ main_c_4) (by rw [hk]; rfl) e he
  rw [← h11] at h
  after_reads_simp
  exact h

theorem v15_at  :
    (at' (StableHlo.after hostOps0_5 σ) main_v15 : IVec S17 32) = addi (subi (at' σ main_v12) (at' σ main_v8)) (broadcastInDim S17 ![] bcast_S_S17 (constantI S_ 32 1#32)) := by
  after_reads_simp

theorem main_c_6_at  :
    (at' (StableHlo.after hostOps0_5 σ) main_c_6 : IVec S_ 32) = constantI S_ 32 0#32 := by
  after_reads_simp

theorem v16_at {v12 v8 : IVec S17 32} (h9 : ∀ e : Fin 17, (at' σ main_v9 : IVec S17 1) (ValueIdx.ix1 e) = BitVec.ofBool (decide (Plan.starts c e.val < Plan.ends c e.val)))
    (h12 : ∀ e : Fin 17, Plan.starts c e.val < Plan.ends c e.val → v12 (ValueIdx.ix1 e) = BitVec.ofNat 32 ((Plan.ends c e.val - 1) / 1024))
    (h8 : Holds (n := 17) v8 (Plan.ft c)) (h15 : (at' σ main_v15 : IVec S17 32) = addi (subi v12 v8) (broadcastInDim S17 ![] bcast_S_S17 (constantI S_ 32 1#32)))
    (hk : (at' σ main_c_6 : IVec S_ 32) = constantI S_ 32 0#32) :
    Holds (n := 17) (at' (StableHlo.after hostOps0_6 σ) main_v16) (Plan.vis c) := by
  have h := Words.vis_at h9 h12 h8 (k := broadcastInDim S17 ![] bcast_S_S17 (constantI S_ 32 1#32)) (z := broadcastInDim S17 ![] bcast_S_S17 (at' σ main_c_6)) (Words.const_at _ _ _ rfl)
    (Words.const_at _ _ _ (by rw [hk]; rfl))
  rw [← h15] at h
  after_reads_simp
  exact h

theorem v17_at (h : Holds (n := 17) (at' σ main_v16) (Plan.vis c)) :
    Holds (n := 17) (at' (StableHlo.after hostOps0_7 σ) main_v17) (Plan.ve c) := by
  after_reads_simp
  simp -implicitDefEqProofs only [StableHlo.TRef.toBuf, StableHlo.TRef.ofBuf, cast_cast, cast_eq]
  exact Words.ve_at (h := reduceWindows_S17_S17_w17s1p16_0) (hu := h_S_) h (broadcastInDim S_ ![] bcast_S_S_ (constantI S_ 32 0#32)) (Words.const_at bcast_S_S_ (constantI S_ 32 0#32) 0#32 rfl ValueIdx.ix0)

theorem v18_at  :
    Holds (n := 112) (at' (StableHlo.after hostOps0_8 σ) main_v18) id := by
  after_reads_simp
  exact fun e => rfl

theorem v19_at (h17 : Holds (n := 17) (at' σ main_v17) (Plan.ve c)) (h18 : Holds (n := 112) (at' σ main_v18) id) :
    Holds (n := 112) (at' (StableHlo.after hostOps0_9 σ) main_v19) (Plan.grp c) := by
  after_reads_simp
  exact Words.grp_at (h₁ := bcast_S17_S17x1_0) (h₂ := bcast_S17x1_S17x112_0_1) (h₃ := bcast_S112_S1x112_1) (h₄ := bcast_S1x112_S17x112_0_1) (hw := natLt_1_32)
    (h := reducesTo_S17x112_S112_d0) (hu := h_S_) (z := constantI S_ 32 0#32) h17 h18 rfl

theorem v21_at (h : Holds (n := 112) (at' σ main_v19) (Plan.grp c)) (w : Fin 112) :
    (at' (StableHlo.after hostOps0_10 σ) main_v21 : IVec S112 1) (ValueIdx.ix1 w) = BitVec.ofBool (decide (Plan.grp c w.val ≤ 16)) := by
  after_reads_simp
  exact Words.live_at h (Words.const_at _ _ _ rfl) w

theorem v23_at (h : Holds (n := 112) (at' σ main_v19) (Plan.grp c)) :
    Holds (n := 112) (at' (StableHlo.after hostOps0_10 σ) main_v23) (fun w => min (Plan.grp c w) 16) := by
  after_reads_simp
  exact Words.gi_at h (Words.const_at _ _ _ rfl)

theorem v47_at (h : Holds (n := 112) (at' σ main_v19) (Plan.grp c)) (h8 : Holds (n := 17) (at' σ main_v8) (Plan.ft c)) (h16 : Holds (n := 17) (at' σ main_v16) (Plan.vis c))
    (h17 : Holds (n := 17) (at' σ main_v17) (Plan.ve c)) (h18 : Holds (n := 112) (at' σ main_v18) id) (w : Fin 112) (hw : Plan.grp c w.val ≤ 16) :
    (at' (StableHlo.after hostOps0_10 σ) main_v47 : IVec S112 32) (ValueIdx.ix1 w) = BitVec.ofNat 32 (Plan.ft c (Plan.grp c w.val) + w.val - (Plan.ve c (Plan.grp c w.val) - Plan.vis c (Plan.grp c w.val))) := by
  have hg := Words.gi_at h (k := broadcastInDim S112 ![] bcast_S_S112 (constantI S_ 32 16#32)) (Words.const_at _ _ _ rfl)
  after_reads_simp
  exact Words.tile_at
    (Words.take_at h8 hg (Words.const_at _ _ _ rfl) gather_S17_S112x1_S112_n_0_n_n_0_1_1 rfl rfl rfl rfl) h18
    (Words.take_at h17 hg (Words.const_at _ _ _ rfl) gather_S17_S112x1_S112_n_0_n_n_0_1_1 rfl rfl rfl rfl)
    (Words.take_at h16 hg (Words.const_at _ _ _ rfl) gather_S17_S112x1_S112_n_0_n_n_0_1_1 rfl rfl rfl rfl) w hw

theorem main_c_15_at  :
    (at' (StableHlo.after hostOps0_10 σ) main_c_15 : IVec S_ 32) = constantI S_ 32 95#32 := by
  after_reads_simp

theorem v48_at (h21 : ∀ w : Fin 112, (at' σ main_v21 : IVec S112 1) (ValueIdx.ix1 w) = BitVec.ofBool (decide (Plan.grp c w.val ≤ 16)))
    (h47 : ∀ w : Fin 112, Plan.grp c w.val ≤ 16 → (at' σ main_v47 : IVec S112 32) (ValueIdx.ix1 w) = BitVec.ofNat 32 (Plan.ft c (Plan.grp c w.val) + w.val - (Plan.ve c (Plan.grp c w.val) - Plan.vis c (Plan.grp c w.val))))
    (hk : (at' σ main_c_15 : IVec S_ 32) = constantI S_ 32 95#32) :
    Holds (n := 112) (at' (StableHlo.after hostOps0_11 σ) main_v48) (Plan.tile c) := by
  have h := Words.where_at h21 (f := fun w => Plan.ft c (Plan.grp c w) + w - (Plan.ve c (Plan.grp c w) - Plan.vis c (Plan.grp c w))) h47
    (z := broadcastInDim S112 ![] bcast_S_S112 (at' σ main_c_15)) (k := 95) (Words.const_at _ _ _ (by rw [hk]; rfl))
  after_reads_simp
  exact h

theorem v55_at (ht : Holds (n := 17) (at' σ main_v7) (Plan.starts c)) (hg : Holds (n := 112) (at' σ main_v23) (fun w => min (Plan.grp c w) 16)) :
    Holds (n := 112) (at' (StableHlo.after hostOps0_12 σ) main_v55) (fun w => Plan.starts c (min (Plan.grp c w) 16)) := by
  after_reads_simp
  exact Words.take_at ht hg (Words.const_at _ _ _ rfl) gather_S17_S112x1_S112_n_0_n_n_0_1_1 rfl rfl rfl rfl

theorem main_c_18_at  :
    (at' (StableHlo.after hostOps0_12 σ) main_c_18 : IVec S_ 32) = constantI S_ 32 0#32 := by
  after_reads_simp

theorem v56_at (h21 : ∀ w : Fin 112, (at' σ main_v21 : IVec S112 1) (ValueIdx.ix1 w) = BitVec.ofBool (decide (Plan.grp c w.val ≤ 16)))
    (hg : Holds (n := 112) (at' σ main_v55) (fun w => Plan.starts c (min (Plan.grp c w) 16)))
    (hk : (at' σ main_c_18 : IVec S_ 32) = constantI S_ 32 0#32) :
    Holds (n := 112) (at' (StableHlo.after hostOps0_13 σ) main_v56) (Plan.lo c) := by
  have h := Words.where_at h21 (x := at' σ main_v55) (f := fun w => Plan.starts c (Plan.grp c w))
    (fun w hw => (hg w).trans (congrArg (fun n => BitVec.ofNat 32 (Plan.starts c n)) (by omega)))
    (z := broadcastInDim S112 ![] bcast_S_S112 (at' σ main_c_18)) (k := 0) (Words.const_at _ _ _ (by rw [hk]; rfl))
  after_reads_simp
  exact h

theorem v63_at (ht : Holds (n := 17) (at' σ main_v4) (Plan.ends c)) (hg : Holds (n := 112) (at' σ main_v23) (fun w => min (Plan.grp c w) 16)) :
    Holds (n := 112) (at' (StableHlo.after hostOps0_14 σ) main_v63) (fun w => Plan.ends c (min (Plan.grp c w) 16)) := by
  after_reads_simp
  exact Words.take_at ht hg (Words.const_at _ _ _ rfl) gather_S17_S112x1_S112_n_0_n_n_0_1_1 rfl rfl rfl rfl

theorem main_c_21_at  :
    (at' (StableHlo.after hostOps0_14 σ) main_c_21 : IVec S_ 32) = constantI S_ 32 0#32 := by
  after_reads_simp

theorem v64_at (h21 : ∀ w : Fin 112, (at' σ main_v21 : IVec S112 1) (ValueIdx.ix1 w) = BitVec.ofBool (decide (Plan.grp c w.val ≤ 16)))
    (hg : Holds (n := 112) (at' σ main_v63) (fun w => Plan.ends c (min (Plan.grp c w) 16)))
    (hk : (at' σ main_c_21 : IVec S_ 32) = constantI S_ 32 0#32) :
    Holds (n := 112) (at' (StableHlo.after hostOps0_15 σ) main_v64) (Plan.hi c) := by
  have h := Words.where_at h21 (x := at' σ main_v63) (f := fun w => Plan.ends c (Plan.grp c w))
    (fun w hw => (hg w).trans (congrArg (fun n => BitVec.ofNat 32 (Plan.ends c n)) (by omega)))
    (z := broadcastInDim S112 ![] bcast_S_S112 (at' σ main_c_21)) (k := 0) (Words.const_at _ _ _ (by rw [hk]; rfl))
  after_reads_simp
  exact h

theorem v65_at  :
    (at' (StableHlo.after hostOps0_16 σ) main_v65 : Vec F S768x128 .f32) = shapeCast S768x128 (at' σ main_arg1 : Vec F S98304 .f32) shapeCasts_S98304_S768x128 := by
  after_reads_simp
  rfl

theorem v66_at  :
    (at' (StableHlo.after hostOps0_16 σ) main_v66 : Vec F S16x1x2048 .f32) = shapeCast S16x1x2048 (at' σ main_arg3 : Vec F S16x2048 .f32) shapeCasts_S16x2048_S16x1x2048 := by
  after_reads_simp
  rfl

/-! ## All of them, one after the other -/

/-- The contents after all the host operations before the kernel. -/
def final : Valuation τ sig (Elt F) :=
  StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (σ)))))))))))))))))

/-- The lists of operations, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

theorem after_opss : StableHlo.after opss.flatten σ = final σ := by
  unfold final
  simp only [opss, List.flatten_cons, List.flatten_nil, List.append_nil, StableHlo.after_append]

set_option maxHeartbeats 1000000 in
/-- The four tables hold the schedule of the group sizes. -/
theorem tables (h : Holds (n := 16) (at' σ main_arg4) c) (hc : ∀ e, e < 16 → c e ≤ 98304) :
    Holds (n := 112) (at' (final σ) main_v48) (Plan.tile c) ∧ Holds (n := 112) (at' (final σ) main_v23) (fun w => min (Plan.grp c w) 16)
    ∧ Holds (n := 112) (at' (final σ) main_v56) (Plan.lo c) ∧ Holds (n := 112) (at' (final σ) main_v64) (Plan.hi c) := by
  obtain ⟨s1, e1⟩ : ∃ s, s = StableHlo.after hostOps0 σ := ⟨_, rfl⟩
  obtain ⟨s2, e2⟩ : ∃ s, s = StableHlo.after hostOps0_1 s1 := ⟨_, rfl⟩
  obtain ⟨s3, e3⟩ : ∃ s, s = StableHlo.after hostOps0_2 s2 := ⟨_, rfl⟩
  obtain ⟨s4, e4⟩ : ∃ s, s = StableHlo.after hostOps0_3 s3 := ⟨_, rfl⟩
  obtain ⟨s5, e5⟩ : ∃ s, s = StableHlo.after hostOps0_4 s4 := ⟨_, rfl⟩
  obtain ⟨s6, e6⟩ : ∃ s, s = StableHlo.after hostOps0_5 s5 := ⟨_, rfl⟩
  obtain ⟨s7, e7⟩ : ∃ s, s = StableHlo.after hostOps0_6 s6 := ⟨_, rfl⟩
  obtain ⟨s8, e8⟩ : ∃ s, s = StableHlo.after hostOps0_7 s7 := ⟨_, rfl⟩
  obtain ⟨s9, e9⟩ : ∃ s, s = StableHlo.after hostOps0_8 s8 := ⟨_, rfl⟩
  obtain ⟨s10, e10⟩ : ∃ s, s = StableHlo.after hostOps0_9 s9 := ⟨_, rfl⟩
  obtain ⟨s11, e11⟩ : ∃ s, s = StableHlo.after hostOps0_10 s10 := ⟨_, rfl⟩
  obtain ⟨s12, e12⟩ : ∃ s, s = StableHlo.after hostOps0_11 s11 := ⟨_, rfl⟩
  obtain ⟨s13, e13⟩ : ∃ s, s = StableHlo.after hostOps0_12 s12 := ⟨_, rfl⟩
  obtain ⟨s14, e14⟩ : ∃ s, s = StableHlo.after hostOps0_13 s13 := ⟨_, rfl⟩
  obtain ⟨s15, e15⟩ : ∃ s, s = StableHlo.after hostOps0_14 s14 := ⟨_, rfl⟩
  obtain ⟨s16, e16⟩ : ∃ s, s = StableHlo.after hostOps0_15 s15 := ⟨_, rfl⟩
  obtain ⟨s17, e17⟩ : ∃ s, s = StableHlo.after hostOps0_16 s16 := ⟨_, rfl⟩
  have h0 : Holds (n := 16) (at' s1 main_v0) (fun e => Plan.tot c (e + 1)) := by rw [e1]; exact v0_at σ h
  have h4 : Holds (n := 17) (at' s2 main_v4) (Plan.ends c) := by rw [e2]; exact v4_at s1 hc h0
  have h7 : Holds (n := 17) (at' s2 main_v7) (Plan.starts c) := by rw [e2]; exact v7_at s1 hc h0
  have k2 : (at' s2 main_c_2 : IVec S_ 32) = constantI S_ 32 1024#32 := by rw [e2]; exact main_c_2_at s1
  have h8 : Holds (n := 17) (at' s3 main_v8) (Plan.ft c) := by rw [e3]; exact v8_at s2 h7 k2
  have q : at' s3 main_v4 = at' s2 main_v4 := by
    rw [e3]; exact (keep_2 _ (by decide))
  rw [← q] at h4; clear q
  have q : at' s3 main_v7 = at' s2 main_v7 := by
    rw [e3]; exact (keep_2 _ (by decide))
  rw [← q] at h7; clear q
  have h9 : ∀ e : Fin 17, (at' s4 main_v9 : IVec S17 1) (ValueIdx.ix1 e) = BitVec.ofBool (decide (Plan.starts c e.val < Plan.ends c e.val)) := by rw [e4]; exact v9_at s3 h4 h7
  have h11 : (at' s4 main_v11 : IVec S17 32) = subi (at' s3 main_v4) (broadcastInDim S17 ![] bcast_S_S17 (constantI S_ 32 1#32)) := by rw [e4]; exact v11_at s3
  have k4 : (at' s4 main_c_4 : IVec S_ 32) = constantI S_ 32 1024#32 := by rw [e4]; exact main_c_4_at s3
  have h12 : ∀ e : Fin 17, Plan.starts c e.val < Plan.ends c e.val → (at' s5 main_v12 : IVec S17 32) (ValueIdx.ix1 e) = BitVec.ofNat 32 ((Plan.ends c e.val - 1) / 1024) := by rw [e5]; exact fun e he => v12_at s4 h4 h11 k4 e he
  have q : at' s5 main_v8 = at' s3 main_v8 := by
    rw [e5, e4]; exact ((keep_4 _ (by decide)).trans (keep_3 _ (by decide)))
  rw [← q] at h8; clear q
  have h15 : (at' s6 main_v15 : IVec S17 32) = addi (subi (at' s5 main_v12) (at' s5 main_v8)) (broadcastInDim S17 ![] bcast_S_S17 (constantI S_ 32 1#32)) := by rw [e6]; exact v15_at s5
  have k6 : (at' s6 main_c_6 : IVec S_ 32) = constantI S_ 32 0#32 := by rw [e6]; exact main_c_6_at s5
  have q : at' s6 main_v9 = at' s4 main_v9 := by
    rw [e6, e5]; exact ((keep_5 _ (by decide)).trans (keep_4 _ (by decide)))
  rw [← q] at h9; clear q
  have h16 : Holds (n := 17) (at' s7 main_v16) (Plan.vis c) := by rw [e7]; exact v16_at s6 h9 h12 h8 h15 k6
  have h17 : Holds (n := 17) (at' s8 main_v17) (Plan.ve c) := by rw [e8]; exact v17_at s7 h16
  have h18 : Holds (n := 112) (at' s9 main_v18) (id) := by rw [e9]; exact v18_at s8
  have q : at' s9 main_v17 = at' s8 main_v17 := by
    rw [e9]; exact (keep_8 _ (by decide))
  rw [← q] at h17; clear q
  have h19 : Holds (n := 112) (at' s10 main_v19) (Plan.grp c) := by rw [e10]; exact v19_at s9 h17 h18
  have q : at' s10 main_v17 = at' s9 main_v17 := by
    rw [e10]; exact (keep_9 _ (by decide))
  rw [← q] at h17; clear q
  have q : at' s10 main_v18 = at' s9 main_v18 := by
    rw [e10]; exact (keep_9 _ (by decide))
  rw [← q] at h18; clear q
  have q : at' s10 main_v16 = at' s7 main_v16 := by
    rw [e10, e9, e8]; exact (((keep_9 _ (by decide)).trans (keep_8 _ (by decide))).trans (keep_7 _ (by decide)))
  rw [← q] at h16; clear q
  have q : at' s10 main_v8 = at' s5 main_v8 := by
    rw [e10, e9, e8, e7, e6]; exact (((((keep_9 _ (by decide)).trans (keep_8 _ (by decide))).trans (keep_7 _ (by decide))).trans (keep_6 _ (by decide))).trans (keep_5 _ (by decide)))
  rw [← q] at h8; clear q
  have h21 : ∀ w : Fin 112, (at' s11 main_v21 : IVec S112 1) (ValueIdx.ix1 w) = BitVec.ofBool (decide (Plan.grp c w.val ≤ 16)) := by rw [e11]; exact v21_at s10 h19
  have h23 : Holds (n := 112) (at' s11 main_v23) (fun w => min (Plan.grp c w) 16) := by rw [e11]; exact v23_at s10 h19
  have h47 : ∀ w : Fin 112, Plan.grp c w.val ≤ 16 → (at' s11 main_v47 : IVec S112 32) (ValueIdx.ix1 w) = BitVec.ofNat 32 (Plan.ft c (Plan.grp c w.val) + w.val - (Plan.ve c (Plan.grp c w.val) - Plan.vis c (Plan.grp c w.val))) := by rw [e11]; exact fun w hw => v47_at s10 h19 h8 h16 h17 h18 w hw
  have k15 : (at' s11 main_c_15 : IVec S_ 32) = constantI S_ 32 95#32 := by rw [e11]; exact main_c_15_at s10
  have h48 : Holds (n := 112) (at' s12 main_v48) (Plan.tile c) := by rw [e12]; exact v48_at s11 h21 h47 k15
  have q : at' s12 main_v7 = at' s3 main_v7 := by
    rw [e12, e11, e10, e9, e8, e7, e6, e5, e4]; exact (((((((((keep_11 _ (by decide)).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide)))
  rw [← q] at h7; clear q
  have q : at' s12 main_v23 = at' s11 main_v23 := by
    rw [e12]; exact (keep_11 _ (by decide))
  rw [← q] at h23; clear q
  have h55 : Holds (n := 112) (at' s13 main_v55) (fun w => Plan.starts c (min (Plan.grp c w) 16)) := by rw [e13]; exact v55_at s12 h7 h23
  have k18 : (at' s13 main_c_18 : IVec S_ 32) = constantI S_ 32 0#32 := by rw [e13]; exact main_c_18_at s12
  have q : at' s13 main_v21 = at' s11 main_v21 := by
    rw [e13, e12]; exact ((keep_12 _ (by decide)).trans (keep_11 _ (by decide)))
  rw [← q] at h21; clear q
  have h56 : Holds (n := 112) (at' s14 main_v56) (Plan.lo c) := by rw [e14]; exact v56_at s13 h21 h55 k18
  have q : at' s14 main_v4 = at' s3 main_v4 := by
    rw [e14, e13, e12, e11, e10, e9, e8, e7, e6, e5, e4]; exact (((((((((((keep_13 _ (by decide)).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide)))
  rw [← q] at h4; clear q
  have q : at' s14 main_v23 = at' s12 main_v23 := by
    rw [e14, e13]; exact ((keep_13 _ (by decide)).trans (keep_12 _ (by decide)))
  rw [← q] at h23; clear q
  have h63 : Holds (n := 112) (at' s15 main_v63) (fun w => Plan.ends c (min (Plan.grp c w) 16)) := by rw [e15]; exact v63_at s14 h4 h23
  have k21 : (at' s15 main_c_21 : IVec S_ 32) = constantI S_ 32 0#32 := by rw [e15]; exact main_c_21_at s14
  have q : at' s15 main_v21 = at' s13 main_v21 := by
    rw [e15, e14]; exact ((keep_14 _ (by decide)).trans (keep_13 _ (by decide)))
  rw [← q] at h21; clear q
  have h64 : Holds (n := 112) (at' s16 main_v64) (Plan.hi c) := by rw [e16]; exact v64_at s15 h21 h63 k21
  have q : at' s17 main_v48 = at' s12 main_v48 := by
    rw [e17, e16, e15, e14, e13]; exact (((((keep_16 _ (by decide)).trans (keep_15 _ (by decide))).trans (keep_14 _ (by decide))).trans (keep_13 _ (by decide))).trans (keep_12 _ (by decide)))
  rw [← q] at h48; clear q
  have q : at' s17 main_v23 = at' s14 main_v23 := by
    rw [e17, e16, e15]; exact (((keep_16 _ (by decide)).trans (keep_15 _ (by decide))).trans (keep_14 _ (by decide)))
  rw [← q] at h23; clear q
  have q : at' s17 main_v56 = at' s14 main_v56 := by
    rw [e17, e16, e15]; exact (((keep_16 _ (by decide)).trans (keep_15 _ (by decide))).trans (keep_14 _ (by decide)))
  rw [← q] at h56; clear q
  have q : at' s17 main_v64 = at' s16 main_v64 := by
    rw [e17]; exact (keep_16 _ (by decide))
  rw [← q] at h64; clear q
  have ef : final σ = s17 := by
    unfold final
    rw [← e1, ← e2, ← e3, ← e4, ← e5, ← e6, ← e7, ← e8, ← e9, ← e10, ← e11, ← e12, ← e13, ← e14, ← e15, ← e16, ← e17]
  rw [ef]
  exact ⟨h48, h23, h56, h64⟩

/-- Every argument is left as it was. -/
theorem arg_at {r : Ref sig .tc} (hr : r ∈ [main_arg0, main_arg1, main_arg2, main_arg3, main_arg4]) : at' (final σ) r = at' σ r := by
  unfold final
  simp only [List.mem_cons, List.not_mem_nil, or_false] at hr
  rcases hr with rfl | rfl | rfl | rfl | rfl <;>
  exact (((((((((((((((((keep_16 _ (by decide)).trans (keep_15 _ (by decide))).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

/-- The activation scales as the kernel reads them: 128 to a row. -/
theorem final_v65 : (at' (final σ) main_v65 : Vec F S768x128 .f32) = shapeCast S768x128 (at' σ main_arg1 : Vec F S98304 .f32) shapeCasts_S98304_S768x128 := by
  unfold final
  refine (v65_at _).trans (congrArg (fun x : Vec F S98304 .f32 => shapeCast S768x128 x shapeCasts_S98304_S768x128) ?_)
  exact ((((((((((((((((keep_15 _ (by decide)).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

/-- The weight scales as the kernel reads them: a row to a group. -/
theorem final_v66 : (at' (final σ) main_v66 : Vec F S16x1x2048 .f32) = shapeCast S16x1x2048 (at' σ main_arg3 : Vec F S16x2048 .f32) shapeCasts_S16x2048_S16x1x2048 := by
  unfold final
  refine (v66_at _).trans (congrArg (fun x : Vec F S16x2048 .f32 => shapeCast S16x1x2048 x shapeCasts_S16x2048_S16x1x2048) ?_)
  exact ((((((((((((((((keep_15 _ (by decide)).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

end Cert.Kernel.Tables
-- ==== Proof.KernelRuns.lean ====
/-
  THE REGION'S SURROUNDINGS: what the host operations leave when the kernel's pipeline starts (Tables.lean), the tables read off it, and the
  blocks each input window stages.
-/
module

public import proofs.«01_k».proof.Proof.KernelTables
public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v48) (Memref.isWhole_whole _) (Memref.whole main_v23) (Memref.isWhole_whole _) (Memref.whole main_v56) (Memref.isWhole_whole _) (Memref.whole main_v64) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- What the host operations find on core `c`. -/
abbrev V₀ (c : Dev nD) : Valuation τ sig (Elt F) := fun b => m (c, b)

/-- Core `c`'s TensorCore buffers when the region is entered: what the host operations leave. -/
def V (c : Dev nD) (b : Ref sig .tc) : Buf (Elt F) ((c : Thread nD τ).loc b) := Tables.final (V₀ m c) (Proc.devRef .tc b)

theorem V_eq : V m = fun c (b : Ref sig .tc) => StableHlo.after (Tables.opss (F := F)).flatten (fun b => m (c, b)) (Proc.devRef .tc b) := by
  funext c b; unfold V; rw [Tables.after_opss]; try rfl

/-- @main up to the region: seventeen stretches of host operations, then the region. -/
theorem hmain (𝒱₀ : Variants) : Pipeline.HMainP (Ix := Unit) (Name := ℕ) (U := UR sig nD τ) (Lvl := ℕ) pcfgs 0 defs₀ 𝒱₀ m (main (F := F)) (V m) := by
  rw [V_eq]
  exact Pipeline.hmainP_prefixes pcfgs 0 defs₀ 𝒱₀ m main Tables.opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
    (by repeat (first | exact trivial | constructor | rfl))
    fun c => (main_chain c).trans rfl

theorem V_main_arg0 (c : Dev nD) : V m c main_arg0 = m ((c : Thread nD τ).loc main_arg0) := Tables.arg_at (V₀ m c) (by decide)
theorem V_main_arg1 (c : Dev nD) : V m c main_arg1 = m ((c : Thread nD τ).loc main_arg1) := Tables.arg_at (V₀ m c) (by decide)
theorem V_main_arg2 (c : Dev nD) : V m c main_arg2 = m ((c : Thread nD τ).loc main_arg2) := Tables.arg_at (V₀ m c) (by decide)
theorem V_main_arg3 (c : Dev nD) : V m c main_arg3 = m ((c : Thread nD τ).loc main_arg3) := Tables.arg_at (V₀ m c) (by decide)
theorem V_main_arg4 (c : Dev nD) : V m c main_arg4 = m ((c : Thread nD τ).loc main_arg4) := Tables.arg_at (V₀ m c) (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (`True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S112 .i32 := Memref.whole main_v48
abbrev htbM0_0 : tbM0_0.IsWhole := Memref.isWhole_whole _
abbrev tbM0_1 : Memref sig .tc .smem S112 .i32 := Memref.whole main_v23
abbrev htbM0_1 : tbM0_1.IsWhole := Memref.isWhole_whole _
abbrev tbM0_2 : Memref sig .tc .smem S112 .i32 := Memref.whole main_v56
abbrev htbM0_2 : tbM0_2.IsWhole := Memref.isWhole_whole _
abbrev tbM0_3 : Memref sig .tc .smem S112 .i32 := Memref.whole main_v64
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x1408 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S8x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1408x2048 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x2048 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel.Run

end
-- ==== Proof.KernelBody.lean ====
/-
  THE BODY AT ONE POINT: what the kernel leaves in the output buffer, from the four table words of the point, the staged inputs and the
  buffer as it found it.
-/
module

public import proofs.«01_k».proof.Proof.KernelRuns

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a table at a grid point. -/
def word (x : Vec F S112 .i32) (i : grid0.Coords) : BitVec 32 := x ((Rect.unit (s := S112) (k0_off1 i) S1.size (k0_off1_inb i)).emb (Shape.Idx.first (numel1_S1.symm ▸ Nat.one_pos)))

/-- The scales of the point's rows, laid out as columns, and those of its group's output columns. -/
def xsc (x1 : Vec F S8x128 .f32) : FVec F S128x8 .f32 := k0_pay1 (View.ld x1 (Rect.unit (s := S8x128) ![0, 0] S8x128.size inb_S8x128_S8x128_0_0))
def wsc (x3 : Vec F S1x1x2048 .f32) : FVec F S1x2048 .f32 := k0_pay2 (View.ld x3 (Rect.unit (s := S1x1x2048) ![0, 0, 0] S1x1x2048.size inb_S1x1x2048_S1x1x2048_0_0_0))
/-- The group's matrix as loaded. -/
def wmat (x2 : Vec F S1x1408x2048 .fp8e4m3) : Vec F S1x1408x2048 .fp8e4m3 := View.ld x2 (Rect.unit (s := S1x1408x2048) ![0, 0, 0] S1x1408x2048.size inb_S1x1408x2048_S1x1408x2048_0_0_0)

/-- What the point stores, four chunks of 256 rows over one another's complement. -/
def outBuf (v1 v3 v5 v8 : BitVec 32) (x0 : Vec F S1024x1408 .fp8e4m3) (x1 : Vec F S8x128 .f32) (x2 : Vec F S1x1408x2048 .fp8e4m3) (x3 : Vec F S1x1x2048 .f32) (x4 : Vec F S1024x2048 .bf16) : Vec F S1024x2048 .bf16 :=
  View.canon (Val := Elt F) (s := S1024x2048) (e := .bf16)
    [⟨(Rect.unit (s := S1024x2048) ![768, 0] S256x2048.size inb_S1024x2048_S256x2048_768_0), k0_pay9 v1 v3 (Scalar.muli v5 1024#32) (Scalar.cmpi .slt v8 16#32) (xsc x1) (wsc x3) (View.ld x0 (Rect.unit (s := S1024x1408) ![768, 0] S256x1408.size inb_S1024x1408_S256x1408_768_0)) (wmat x2) (View.ld x4 (Rect.unit (s := S1024x2048) ![768, 0] S256x2048.size inb_S1024x2048_S256x2048_768_0))⟩,
     ⟨(Rect.unit (s := S1024x2048) ![512, 0] S256x2048.size inb_S1024x2048_S256x2048_512_0), k0_pay8 v3 (Scalar.cmpi .slt v8 16#32) (k0_pay5 (xsc x1) (wsc x3) (View.ld x0 (Rect.unit (s := S1024x1408) ![512, 0] S256x1408.size inb_S1024x1408_S256x1408_512_0)) (wmat x2)) (k0_pay6 (Scalar.muli v5 1024#32)) (k0_pay7 (F := F) v1 (Scalar.muli v5 1024#32)) (View.ld x4 (Rect.unit (s := S1024x2048) ![512, 0] S256x2048.size inb_S1024x2048_S256x2048_512_0))⟩,
     ⟨(Rect.unit (s := S1024x2048) ![256, 0] S256x2048.size inb_S1024x2048_S256x2048_256_0), k0_pay4 v1 v3 (Scalar.muli v5 1024#32) (Scalar.cmpi .slt v8 16#32) (xsc x1) (wsc x3) (View.ld x0 (Rect.unit (s := S1024x1408) ![256, 0] S256x1408.size inb_S1024x1408_S256x1408_256_0)) (wmat x2) (View.ld x4 (Rect.unit (s := S1024x2048) ![256, 0] S256x2048.size inb_S1024x2048_S256x2048_256_0))⟩,
     ⟨(Rect.unit (s := S1024x2048) ![0, 0] S256x2048.size inb_S1024x2048_S256x2048_0_0), k0_pay3 v1 v3 (Scalar.muli v5 1024#32) (Scalar.cmpi .slt v8 16#32) (View.ld x1 (Rect.unit (s := S8x128) ![0, 0] S8x128.size inb_S8x128_S8x128_0_0)) (View.ld x3 (Rect.unit (s := S1x1x2048) ![0, 0, 0] S1x1x2048.size inb_S1x1x2048_S1x1x2048_0_0_0)) (View.ld x0 (Rect.unit (s := S1024x1408) ![0, 0] S256x1408.size inb_S1024x1408_S256x1408_0_0)) (wmat x2) (View.ld x4 (Rect.unit (s := S1024x2048) ![0, 0] S256x2048.size inb_S1024x2048_S256x2048_0_0))⟩]

/-- What the point leaves in the output buffer: what it stores where its row range is not empty, else what it found. -/
def leaves (v1 v3 v5 v8 : BitVec 32) (x0 : Vec F S1024x1408 .fp8e4m3) (x1 : Vec F S8x128 .f32) (x2 : Vec F S1x1408x2048 .fp8e4m3) (x3 : Vec F S1x1x2048 .f32) (x4 : Vec F S1024x2048 .bf16) : Vec F S1024x2048 .bf16 :=
  if k0_cond1 v1 v3 = 1#1 then outBuf v1 v3 v5 v8 x0 x1 x2 x3 x4 else x4

/-- The four chunks cover the buffer. -/
theorem cover4 (w3 w2 w1 w0 : FVec F S256x2048 .bf16) (x : S1024x2048.Idx) : ∃ p ∈ ([⟨(Rect.unit (s := S1024x2048) ![768, 0] S256x2048.size inb_S1024x2048_S256x2048_768_0), w3⟩, ⟨(Rect.unit (s := S1024x2048) ![512, 0] S256x2048.size inb_S1024x2048_S256x2048_512_0), w2⟩, ⟨(Rect.unit (s := S1024x2048) ![256, 0] S256x2048.size inb_S1024x2048_S256x2048_256_0), w1⟩, ⟨(Rect.unit (s := S1024x2048) ![0, 0] S256x2048.size inb_S1024x2048_S256x2048_0_0), w0⟩] : List (View.Piece (Elt F) S1024x2048 .bf16)), x ∈ p.1.set :=
  View.cover_of_tiled (s := S1024x2048) _ S256x2048.size rfl x

set_option maxHeartbeats 1000000 in
/-- The body's triple on whole staging memrefs and the tables' halves. -/
theorem kernelRun (c : Dev nD) (i : grid0.Coords) (arg5 : Memref sig .tc .vmem S1024x1408 .fp8e4m3) (harg5 : arg5.IsWhole) (arg6 : Memref sig .tc .vmem S8x128 .f32) (harg6 : arg6.IsWhole) (arg7 : Memref sig .tc .vmem S1x1408x2048 .fp8e4m3) (harg7 : arg7.IsWhole) (arg8 : Memref sig .tc .vmem S1x1x2048 .f32) (harg8 : arg8.IsWhole) (arg9 : Memref sig .tc .vmem S1024x2048 .bf16) (harg9 : arg9.IsWhole)
    (x0 : Vec F S1024x1408 .fp8e4m3) (x1 : Vec F S8x128 .f32) (x2 : Vec F S1x1408x2048 .fp8e4m3) (x3 : Vec F S1x1x2048 .f32) (x4 : Vec F S1024x2048 .bf16) (xt0 : TbBuf0 (F := F) c tbM0_0) (xt1 : TbBuf0 (F := F) c tbM0_1) (xt2 : TbBuf0 (F := F) c tbM0_2) (xt3 : TbBuf0 (F := F) c tbM0_3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (leaves (word xt2 i) (word xt3 i) (word xt0 i) (word xt1 i) x0 x1 x2 x3 x4) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__body i tbM0_0 htbM0_0 tbM0_1 htbM0_1 tbM0_2 htbM0_2 tbM0_3 htbM0_3 arg5 harg5 arg6 harg6 arg7 harg7 arg8 harg8 arg9 harg9) K := by
    intro E K
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      unfold leaves
      by_cases h : k0_cond1 (word xt2 i) (word xt3 i) = 1#1
      · refine (congrArg (View.read (Elt F) arg9.view) (dif_pos (c := k0_cond1 (kernelRun.sl.r c i xt2) (kernelRun.sl.r_1 c i xt3) = 1#1) h)).trans ?_
        rw [if_pos h]
        refine (View.read_writes_eq_canon _ _ _ (cover4 _ _ _ _)).trans ?_
        refine Eq.trans (b := outBuf (word xt2 i) (word xt3 i) (word xt0 i) (word xt1 i) (View.read (Elt F) arg5.view (harg5.unread x0)) (View.read (Elt F) arg6.view (harg6.unread x1)) (View.read (Elt F) arg7.view (harg7.unread x2)) (View.read (Elt F) arg8.view (harg8.unread x3)) (View.read (Elt F) arg9.view (harg9.unread x4))) rfl ?_
        rw [hf0, hf1, hf2, hf3, hf4]
      · refine (congrArg (View.read (Elt F) arg9.view) (dif_neg (c := k0_cond1 (kernelRun.sl.r c i xt2) (kernelRun.sl.r_1 c i xt3) = 1#1) h)).trans ?_
        rw [if_neg h]; exact hf4
    isplitl [HT0]; · iexact HT0
    isplitl [HT1]; · iexact HT1
    isplitl [HT2]; · iexact HT2
    iexact HT3

end Cert.Kernel.Run
-- ==== Proof.KernelRun.lean ====
/-
  THE RUN: @main runs to the end from any memory whose tables keep the windows inside their arrays; the output buffer of the kernel is held,
  point by point, to a predicate that the caller names (an output window first holds unknown contents, so what is left in it is a relation
  to what was found, not a function of the inputs).
-/
module

public import proofs.«01_k».proof.Proof.KernelBody
public import Idealize.ShloMosaic.Lib.Pipeline.DatRel
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window, held to a predicate. -/
def forgets0 : Fin 5 → Bool := fun w => w.val == 4

/-- The proof data of the pipeline on core `c`: the arrays as the region finds them; after the body each input's buffer at its block, the
    output's unnamed; the tables' halves pass through. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The predicate on the windows: `P` of the output, nothing of the others. -/
def Rl (hO : Ok m) (P : Fin (cfgM m hO).N → Vec F S1024x2048 .bf16 → Prop) : (w : Fin (cfgM m hO).W) → (t : Fin (cfgM m hO).N) → (((cfgM m hO).win w).block.Idx → Elt F ((cfgM m hO).win w).elt) → Prop :=
  fun w t => match w with
    | ⟨0, _⟩ => fun _ => True
    | ⟨1, _⟩ => fun _ => True
    | ⟨2, _⟩ => fun _ => True
    | ⟨3, _⟩ => fun _ => True
    | ⟨4, _⟩ => fun X => P t X

/-- The data with the output window held to `P`. -/
abbrev rdat (hO : Ok m) (P : Fin (cfgM m hO).N → Vec F S1024x2048 .bf16 → Prop) (c : Dev nD) := (dats m hO 0 c).toRRel forgets0 (Rl m hO P)

/-- What the body may find in the output window at `t`. -/
def Found (hO : Ok m) (P : Fin (cfgM m hO).N → Vec F S1024x2048 .bf16 → Prop) (c : Dev nD) (t : Fin (cfgM m hO).N) (Y : Vec F S1024x2048 .bf16) : Prop :=
  (rdat m hO P c).Finds (4 : Fin 5) t Y

/-- What the body leaves in the output window at `t` where it finds `Y`. -/
def left (hO : Ok m) (c : Dev nD) (t : Fin (cfgM m hO).N) (Y : Vec F S1024x2048 .bf16) : Vec F S1024x2048 .bf16 :=
  leaves (word (tbl m 2) (grid0.coords t)) (word (tbl m 3) (grid0.coords t)) (word (tbl m 0) (grid0.coords t)) (word (tbl m 1) (grid0.coords t))
    (iblk m hO c 0 t) (iblk m hO c 1 t) (iblk m hO c 2 t) (iblk m hO c 3 t) Y

/-! ## The body obligation, at a generic point -/

/-- What the body is called with at point `t`, -/
def bodyPre (hO : Ok m) (P : Fin (cfgM m hO).N → Vec F S1024x2048 .bf16 → Prop) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ Y, ⌜Found m hO P c t Y⌝ ∗ owns (c : Thread nD τ) (ms0_4 m hO t) fullShare Y))

/-- and what it returns. -/
def bodyPost (hO : Ok m) (P : Fin (cfgM m hO).N → Vec F S1024x2048 .bf16 → Prop) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ X, ⌜P t X⌝ ∗ owns (c : Thread nD τ) (ms0_4 m hO t) fullShare X))

/-- The body at any point, `P` kept by what it leaves. -/
theorem sound_body (hO : Ok m) (P : Fin (cfgM m hO).N → Vec F S1024x2048 .bf16 → Prop) (c : Dev nD) (t : Fin (cfgM m hO).N)
    (hP : ∀ Y, Found m hO P c t Y → P t (left m hO c t Y)) :
    bodyPre m hO P c t ⊢ wp frame (wpE (defs₀ (F := F)) Variants.none c none) Set.univ (bodyAt0 (adm m hO) t) (fun _ => bodyPost m hO P c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%Y, %hY, H4⟩⟩
  iapply ((kernelRun c (grid0.coords t) _ _ _ _ _ _ _ _ _ _ (iblk m hO c 0 t) (iblk m hO c 1 t) (iblk m hO c 2 t) (iblk m hO c 3 t) Y (tbl m 0) (tbl m 1) (tbl m 2) (tbl m 3)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists (left m hO c t Y)
  isplitr
  · ipureintro; exact hP Y hY
  · iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (P : Fin (cfgM m hO).N → Vec F S1024x2048 .bf16 → Prop) (c : Dev nD)
    (hP : ∀ t Y, Found m hO P c t Y → P t (left m hO c t Y)) :
    Pipeline.BodyObligationRel (dats (F := F) m hO 0 c) (defs₀ (F := F)) Variants.none () Set.univ forgets0 (Rl m hO P) := fun t => by
  rw [bigSep_W0, bigSep_W0, defs₀_row m hO]
  exact triple_restated (sound_body m hO P c t (hP t)) rfl .rfl fun _ => .rfl

/-! ## The run and the frame -/

set_option backward.isDefEq.respectTransparency.types false in
/-- THE LAUNCH: @main runs to the end, the arrays as the relational data say and every semaphore counter at zero. -/
theorem run_main_quiescent (hO : Ok m) (P : Fin (cfgM m hO).N → Vec F S1024x2048 .bf16 → Prop) (hP : ∀ c t Y, Found m hO P c t Y → P t (left m hO c t Y)) :
    θ_run defs (onTc (τ := τ) (main (F := F))) (s₀ m ρ) (fun r => (Pipeline.RDat.FramePost ((Pipeline.pin pcfgs fun _ => adm m hO) 0) (fun c => rdat m hO P c) (V m)) r ∧ r.2.sem = fun _ => 0) :=
  Pipeline.RDat.θ_run_frameP (Q' := _) pcfgs (fun _ => adm m hO) (0 : Fin 1) launch0 defs₀ Variants.none (fun c => rdat m hO P c) m ρ main
    (hbody := fun c => (body_obligation m hO P c (hP c)).toRRel) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) (P : Fin (cfgM m hO).N → Vec F S1024x2048 .bf16 → Prop) (hP : ∀ c t Y, Found m hO P c t Y → P t (left m hO c t Y)) :
    θ_run defs (onTc (τ := τ) (main (F := F))) (s₀ m ρ) (Pipeline.RDat.FramePost ((Pipeline.pin pcfgs fun _ => adm m hO) 0) (fun c => rdat m hO P c) (V m)) :=
  (θ_run defs _ _).mono (fun _ h => h.1) (run_main_quiescent m ρ hO P hP)

/-- THE FRAME: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (fun c => rdat m hO (fun _ _ => True) c) (A_eq m hO) (run_main m ρ hO _ fun _ _ _ _ => trivial))
    ((θ_run defs _ _).mono (fun _ h => h.2) (run_main_quiescent m ρ hO (fun _ _ => True) fun _ _ _ _ => trivial))

end Cert.Kernel.Run
-- ==== Proof.KernelSched.lean ====
/-
  THE SCHEDULE OF A LAUNCH: the four tables' words at a grid point as numbers (Plan.lean), the windows inside their arrays, and the group
  sizes' range read off the precondition.
-/
module

public import proofs.«01_k».proof.Proof.KernelRun
public import proofs.«01_k».proof.Proof.Gen.Pre_sizes_in_range

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Words (Holds)

/-- A table's word at a point is its entry at the point's number. -/
theorem word_eq (x : Vec F S112 .i32) (i : grid0.Coords) : word x i = x (ValueIdx.ix1 (i 0)) := by
  unfold word
  congr 1
  funext a
  obtain rfl : a = 0 := Subsingleton.elim _ _
  apply Fin.ext
  have h : ∀ n : Fin 112, (Scalar.indexCast (BitVec.ofNat 32 n.val)).toNat = n.val := by decide
  have h0 := h (i 0)
  exact h0

theorem coords_val : ∀ t : Fin 112, (grid0.coords t 0).val = t.val := by decide

/-- The blocks are inside their arrays where the tile is below 96. -/
theorem ok_of_words (pf : pre0.Contents (Elt F)) (h0 : ∀ i, (word (F := F) (pf 0) i).toNat < 96)
    (h1 : ∀ i, (Scalar.minsi (word (F := F) (pf 1) i) 15#32).toNat < 16) : ok0 pf := by
  have e0 : ∀ i, cc0_transform_0 k0_off1_inb numel1_S1 pf i = ![(word (F := F) (pf 0) i).toNat, 0] := fun _ => rfl
  have e1 : ∀ i, cc0_transform_1 k0_off1_inb numel1_S1 pf i = ![(word (F := F) (pf 0) i).toNat, 0] := fun _ => rfl
  have e2 : ∀ i, cc0_transform_2 k0_off1_inb numel1_S1 pf i = ![(Scalar.minsi (word (F := F) (pf 1) i) 15#32).toNat, 0, 0] := fun _ => rfl
  have e3 : ∀ i, cc0_transform_3 k0_off1_inb numel1_S1 pf i = ![(Scalar.minsi (word (F := F) (pf 1) i) 15#32).toNat, 0, 0] := fun _ => rfl
  have e4 : ∀ i, cc0_transform_4 k0_off1_inb numel1_S1 pf i = ![(word (F := F) (pf 0) i).toNat, 0] := fun _ => rfl
  refine ⟨fun i => ⟨?_, .inr ?_⟩, fun i => ⟨?_, .inl rfl⟩, fun i => ⟨?_, .inr ?_⟩, fun i => ⟨?_, .inl rfl⟩, fun i => ⟨?_, .inr ?_⟩⟩
  · rw [e0]; intro a; have := h0 i
    fin_cases a
    · show ((word (F := F) (pf 0) i).toNat + 1) * 1024 ≤ 98304; omega
    · show (0 + 1) * 1408 ≤ 1408; omega
  · refine .inl (.inr ⟨by decide, rfl, .inl ⟨?_, ?_⟩⟩)
    · show _ ∣ (cc0_transform_0 k0_off1_inb numel1_S1 pf i 0) * 1024
      exact Dvd.dvd.mul_left (by decide) _
    · show 4 ∣ 1024; decide
  · rw [e1]; intro a; have := h0 i
    fin_cases a
    · show ((word (F := F) (pf 0) i).toNat + 1) * 8 ≤ 768; omega
    · show (0 + 1) * 128 ≤ 128; omega
  · rw [e2]; intro a; have := h1 i
    fin_cases a
    · show ((Scalar.minsi (word (F := F) (pf 1) i) 15#32).toNat + 1) * 1 ≤ 16; omega
    · show (0 + 1) * 1408 ≤ 1408; omega
    · show (0 + 1) * 2048 ≤ 2048; omega
  · refine .inl (.inr ⟨by decide, rfl, .inl ⟨?_, ?_⟩⟩)
    · show _ ∣ 0 * 1408
      exact Dvd.dvd.mul_left (by decide) _
    · show 4 ∣ 1408; decide
  · rw [e3]; intro a; have := h1 i
    fin_cases a
    · show ((Scalar.minsi (word (F := F) (pf 1) i) 15#32).toNat + 1) * 1 ≤ 16; omega
    · show (0 + 1) * 1 ≤ 1; omega
    · show (0 + 1) * 2048 ≤ 2048; omega
  · rw [e4]; intro a; have := h0 i
    fin_cases a
    · show ((word (F := F) (pf 0) i).toNat + 1) * 1024 ≤ 98304; omega
    · show (0 + 1) * 2048 ≤ 2048; omega
  · refine .inl (.inr ⟨by decide, rfl, .inl ⟨?_, ?_⟩⟩)
    · show _ ∣ (cc0_transform_4 k0_off1_inb numel1_S1 pf i 0) * 1024
      exact Dvd.dvd.mul_left (by decide) _
    · show 2 ∣ 1024; decide

/-! ## The group sizes' range -/

/-- The group sizes as numbers. -/
def size (g : IVec S16 32) (e : Nat) : Nat := if h : e < 16 then (g (ValueIdx.ix1 ⟨e, h⟩)).toNat else 0

theorem size_holds (g : IVec S16 32) : Holds (n := 16) g (size g) := by
  intro e
  unfold size
  rw [dif_pos e.isLt]
  exact (BitVec.ofNat_toNat _ _).symm ▸ by simp

/-- Where the precondition holds every size is at most the number of rows. -/
theorem size_le (x0 : FVec F Cert.Pre_sizes_in_range.S98304x1408 .fp8e4m3) (x1 : FVec F Cert.Pre_sizes_in_range.S98304 .f32) (x2 : FVec F Cert.Pre_sizes_in_range.S16x1408x2048 .fp8e4m3)
    (x3 : FVec F Cert.Pre_sizes_in_range.S16x2048 .f32) (g : IVec S16 32)
    (h : @Cert.Pre_sizes_in_range.fn Cert.Pre_sizes_in_range.Gen.facts F _ x0 x1 x2 x3 g = fun _ => 1#1) (e : Nat) (he : e < 16) : size g e ≤ 98304 := by
  unfold size
  rw [dif_pos he]
  have h1 : (BitVec.ofBool ((0#32).sle (g (ValueIdx.ix1 ⟨e, he⟩))) &&& BitVec.ofBool ((g (ValueIdx.ix1 ⟨e, he⟩)).sle 98304#32) : BitVec 1) = 1#1 := congrFun h (ValueIdx.ix1 ⟨e, he⟩)
  generalize g (ValueIdx.ix1 ⟨e, he⟩) = w at h1
  have h2 : (0#32).sle w = true ∧ w.sle 98304#32 = true := by
    cases ha : (0#32).sle w <;> cases hb : w.sle 98304#32 <;> rw [ha, hb] at h1 <;> first | exact ⟨rfl, rfl⟩ | exact absurd h1 (by decide)
  obtain ⟨ha, hb⟩ := h2
  rw [BitVec.sle_eq_decide, decide_eq_true_iff] at ha hb
  have h0 : (0#32).toInt = 0 := by decide
  have h9 : (98304#32).toInt = 98304 := by decide
  rw [h0] at ha
  rw [h9] at hb
  rw [BitVec.toInt_eq_toNat_cond] at ha hb
  split_ifs at ha hb <;> omega

/-! ## The tables at a launch -/

section Launch

variable (m : (ℓ : Loc nD τ sig) → Buf (Elt F) ℓ)

/-- The launch's group sizes as numbers, one device's. -/
abbrev sz : Nat → Nat := size (m (((0 : Dev nD) : Thread nD τ).loc main_arg4) : IVec S16 32)

variable (hc : ∀ e, e < 16 → sz m e ≤ 98304)

include hc in
theorem tbl_holds : Holds (n := 112) (tbl m 0) (Plan.tile (sz m)) ∧ Holds (n := 112) (tbl m 1) (fun w => min (Plan.grp (sz m) w) 16)
    ∧ Holds (n := 112) (tbl m 2) (Plan.lo (sz m)) ∧ Holds (n := 112) (tbl m 3) (Plan.hi (sz m)) :=
  Tables.tables (V₀ m 0) (c := sz m) (size_holds _) hc

include hc in
theorem word0 (i : grid0.Coords) : word (F := F) (tbl m 0) i = BitVec.ofNat 32 (Plan.tile (sz m) (i 0).val) := (word_eq _ _).trans ((tbl_holds m hc).1 (i 0))
include hc in
theorem word1 (i : grid0.Coords) : word (F := F) (tbl m 1) i = BitVec.ofNat 32 (min (Plan.grp (sz m) (i 0).val) 16) := (word_eq _ _).trans ((tbl_holds m hc).2.1 (i 0))
include hc in
theorem word2 (i : grid0.Coords) : word (F := F) (tbl m 2) i = BitVec.ofNat 32 (Plan.lo (sz m) (i 0).val) := (word_eq _ _).trans ((tbl_holds m hc).2.2.1 (i 0))
include hc in
theorem word3 (i : grid0.Coords) : word (F := F) (tbl m 3) i = BitVec.ofNat 32 (Plan.hi (sz m) (i 0).val) := (word_eq _ _).trans ((tbl_holds m hc).2.2.2 (i 0))

/-- The block row of the group's window: the group, held below sixteen. -/
theorem group_word : ∀ n : Fin 17, (Scalar.minsi (BitVec.ofNat 32 n.val) 15#32).toNat = min n.val 15 := by decide

include hc in
theorem ok : Ok m := ok_of_words _
  (fun i => by
    rw [word0 m hc, BitVec.toNat_ofNat]
    have := Plan.tile_lt (sz m) (i 0).val
    omega)
  (fun i => by
    rw [word1 m hc, group_word ⟨min (Plan.grp (sz m) (i 0).val) 16, by omega⟩]
    show min (min (Plan.grp (sz m) (i 0).val) 16) 15 < 16
    omega)

end Launch

end Cert.Kernel.Run
-- ==== Proof.KernelIdealTables.lean ====
/-
  THE TABLES THE KERNEL READS: what the host operations before the kernel leave in the four tables of the schedule (Plan.lean) and in the two
  reshaped scale arrays, operation by operation (Words.lean), from the group sizes.
-/
module

public import proofs.«01_k».proof.Proof.Words
public import proofs.«01_k».proof.Proof.Gen.KernelIdeal.Launch
public import Idealize.ShloMosaic.Lib.StableHlo.ReadAt

@[expose] public section

set_option maxRecDepth 16384

noncomputable section

namespace Cert.KernelIdeal.Tables

open Cert.KernelIdeal.Gen
open Idealize.ShloMosaic Idealize.ShloMosaic.TcCoe
open Idealize.ShloMosaic.Routing (pyDiv)
open Cert.Words (Holds)

variable {F : FTy → Type} [FloatOps F]

/-- What a device's buffer holds in the contents `σ`. -/
abbrev at' (σ : Valuation τ sig (Elt F)) (r : Ref sig .tc) := σ (Proc.devRef .tc r)

variable (σ : Valuation τ sig (Elt F)) {c : Nat → Nat}

/-! ## What each stretch of host operations leaves alone -/

theorem keep_0 {r : Ref sig .tc} (hr : r ∉ [main_call0_call0_c, main_call0_call0_v0, main_v0]) : at' (StableHlo.after hostOps0 σ) r = at' σ r :=
  StableHlo.after_unwritten _ rfl hr σ

theorem keep_1 {r : Ref sig .tc} (hr : r ∉ [main_c, main_v1, main_v2, main_c_0, main_v3, main_v4, main_c_1, main_v5, main_v6, main_v7, main_c_2]) : at' (StableHlo.after hostOps0_1 σ) r = at' σ r :=
  StableHlo.after_unwritten _ rfl hr σ

theorem keep_2 {r : Ref sig .tc} (hr : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v8]) : at' (StableHlo.after hostOps0_2 σ) r = at' σ r :=
  StableHlo.after_unwritten _ rfl hr σ

theorem keep_3 {r : Ref sig .tc} (hr : r ∉ [main_v9, main_c_3, main_v10, main_v11, main_c_4]) : at' (StableHlo.after hostOps0_3 σ) r = at' σ r :=
  StableHlo.after_unwritten _ rfl hr σ

theorem keep_4 {r : Ref sig .tc} (hr : r ∉ [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v12]) : at' (StableHlo.after hostOps0_4 σ) r = at' σ r :=
  StableHlo.after_unwritten _ rfl hr σ

theorem keep_5 {r : Ref sig .tc} (hr : r ∉ [main_v13, main_c_5, main_v14, main_v15, main_c_6]) : at' (StableHlo.after hostOps0_5 σ) r = at' σ r :=
  StableHlo.after_unwritten _ rfl hr σ

theorem keep_6 {r : Ref sig .tc} (hr : r ∉ [main_call3_v0, main_call3_v1, main_v16]) : at' (StableHlo.after hostOps0_6 σ) r = at' σ r :=
  StableHlo.after_unwritten _ rfl hr σ

theorem keep_7 {r : Ref sig .tc} (hr : r ∉ [main_call4_call0_c, main_call4_call0_v0, main_v17]) : at' (StableHlo.after hostOps0_7 σ) r = at' σ r :=
  StableHlo.after_unwritten _ rfl hr σ

theorem keep_8 {r : Ref sig .tc} (hr : r ∉ [main_v18]) : at' (StableHlo.after hostOps0_8 σ) r = at' σ r :=
  StableHlo.after_unwritten _ rfl hr σ

theorem keep_9 {r : Ref sig .tc} (hr : r ∉ [main_call5_call0_v0, main_call5_call0_v1, main_call5_call0_v2, main_call5_call0_v3, main_call5_call0_v4, main_call5_call0_v5, main_call5_call0_c, main_v19]) : at' (StableHlo.after hostOps0_9 σ) r = at' σ r :=
  StableHlo.after_unwritten _ rfl hr σ

theorem keep_10 {r : Ref sig .tc} (hr : r ∉ [main_c_7, main_v20, main_v21, main_c_8, main_v22, main_v23, main_c_9, main_v24, main_v25, main_c_10, main_v26, main_v27, main_v28, main_v29, main_v30, main_v31, main_c_11, main_v32, main_v33, main_c_12, main_v34, main_v35, main_v36, main_v37, main_v38, main_c_13, main_v39, main_v40, main_c_14, main_v41, main_v42, main_v43, main_v44, main_v45, main_v46, main_v47, main_c_15]) : at' (StableHlo.after hostOps0_10 σ) r = at' σ r :=
  StableHlo.after_unwritten _ rfl hr σ

theorem keep_11 {r : Ref sig .tc} (hr : r ∉ [main_call6_v0, main_call6_v1, main_v48]) : at' (StableHlo.after hostOps0_11 σ) r = at' σ r :=
  StableHlo.after_unwritten _ rfl hr σ

theorem keep_12 {r : Ref sig .tc} (hr : r ∉ [main_c_16, main_v49, main_v50, main_c_17, main_v51, main_v52, main_v53, main_v54, main_v55, main_c_18]) : at' (StableHlo.after hostOps0_12 σ) r = at' σ r :=
  StableHlo.after_unwritten _ rfl hr σ

theorem keep_13 {r : Ref sig .tc} (hr : r ∉ [main_call7_v0, main_call7_v1, main_v56]) : at' (StableHlo.after hostOps0_13 σ) r = at' σ r :=
  StableHlo.after_unwritten _ rfl hr σ

theorem keep_14 {r : Ref sig .tc} (hr : r ∉ [main_c_19, main_v57, main_v58, main_c_20, main_v59, main_v60, main_v61, main_v62, main_v63, main_c_21]) : at' (StableHlo.after hostOps0_14 σ) r = at' σ r :=
  StableHlo.after_unwritten _ rfl hr σ

theorem keep_15 {r : Ref sig .tc} (hr : r ∉ [main_call8_v0, main_call8_v1, main_v64]) : at' (StableHlo.after hostOps0_15 σ) r = at' σ r :=
  StableHlo.after_unwritten _ rfl hr σ

theorem keep_16 {r : Ref sig .tc} (hr : r ∉ [main_v65, main_v66]) : at' (StableHlo.after hostOps0_16 σ) r = at' σ r :=
  StableHlo.after_unwritten _ rfl hr σ

/-! ## What each stretch computes -/

theorem v0_at (h : Holds (n := 16) (at' σ main_arg4) c) :
    Holds (n := 16) (at' (StableHlo.after hostOps0 σ) main_v0) (fun e => Plan.tot c (e + 1)) := by
  after_reads_simp
  simp -implicitDefEqProofs only [StableHlo.TRef.toBuf, StableHlo.TRef.ofBuf, cast_cast, cast_eq]
  exact Words.totals (h := reduceWindows_S16_S16_w16s1p15_0) (hu := h_S_) h (broadcastInDim S_ ![] bcast_S_S_ (constantI S_ 32 0#32)) (Words.const_at bcast_S_S_ (constantI S_ 32 0#32) 0#32 rfl ValueIdx.ix0)

theorem v4_at (hc : ∀ e, e < 16 → c e ≤ 98304) (h : Holds (n := 16) (at' σ main_v0) (fun e => Plan.tot c (e + 1))) :
    Holds (n := 17) (at' (StableHlo.after hostOps0_1 σ) main_v4) (Plan.ends c) := by
  after_reads_simp
  exact Words.ends_at (k16 := broadcastInDim S16 ![] bcast_S_S16 (constantI S_ 32 98304#32)) (k1 := broadcastInDim S1 ![] bcast_S_S1 (constantI S_ 32 98304#32))
    (h := concatenates_S16_S1_S17_d0) hc h (Words.const_at _ _ _ rfl) (Words.const_at _ _ _ rfl)

theorem v7_at (hc : ∀ e, e < 16 → c e ≤ 98304) (h : Holds (n := 16) (at' σ main_v0) (fun e => Plan.tot c (e + 1))) :
    Holds (n := 17) (at' (StableHlo.after hostOps0_1 σ) main_v7) (Plan.starts c) := by
  after_reads_simp
  have h4 := Words.ends_at (k16 := broadcastInDim S16 ![] bcast_S_S16 (constantI S_ 32 98304#32)) (k1 := broadcastInDim S1 ![] bcast_S_S1 (constantI S_ 32 98304#32))
    (h := concatenates_S16_S1_S17_d0) hc h (Words.const_at _ _ _ rfl) (Words.const_at _ _ _ rfl)
  have h7 := Words.starts_at (k1 := broadcastInDim S1 ![] bcast_S_S1 (constantI S_ 32 0#32)) (hs := slices_S17_S16_0) (h := concatenates_S1_S16_S17_d0) h4 (Words.const_at _ _ _ rfl)
  exact h7

theorem main_c_2_at  :
    (at' (StableHlo.after hostOps0_1 σ) main_c_2 : IVec S_ 32) = constantI S_ 32 1024#32 := by
  after_reads_simp

theorem v8_at (h : Holds (n := 17) (at' σ main_v7) (Plan.starts c)) (hk : (at' σ main_c_2 : IVec S_ 32) = constantI S_ 32 1024#32) :
    Holds (n := 17) (at' (StableHlo.after hostOps0_2 σ) main_v8) (Plan.ft c) := by
  after_reads_simp
  exact Words.ft_at (hb := bcast_S_S17) h (d := at' σ main_c_2) (by rw [hk]; rfl)

theorem v9_at (h4 : Holds (n := 17) (at' σ main_v4) (Plan.ends c)) (h7 : Holds (n := 17) (at' σ main_v7) (Plan.starts c)) (e : Fin 17) :
    (at' (StableHlo.after hostOps0_3 σ) main_v9 : IVec S17 1) (ValueIdx.ix1 e) = BitVec.ofBool (decide (Plan.starts c e.val < Plan.ends c e.val)) := by
  after_reads_simp
  exact Words.some_at h4 h7 e

theorem v11_at  :
    (at' (StableHlo.after hostOps0_3 σ) main_v11 : IVec S17 32) = subi (at' σ main_v4) (broadcastInDim S17 ![] bcast_S_S17 (constantI S_ 32 1#32)) := by
  after_reads_simp

theorem main_c_4_at  :
    (at' (StableHlo.after hostOps0_3 σ) main_c_4 : IVec S_ 32) = constantI S_ 32 1024#32 := by
  after_reads_simp

theorem v12_at {v4 : IVec S17 32} (h4 : Holds (n := 17) v4 (Plan.ends c)) (h11 : (at' σ main_v11 : IVec S17 32) = subi v4 (broadcastInDim S17 ![] bcast_S_S17 (constantI S_ 32 1#32))) (hk : (at' σ main_c_4 : IVec S_ 32) = constantI S_ 32 1024#32)
    (e : Fin 17) (he : Plan.starts c e.val < Plan.ends c e.val) :
    (at' (StableHlo.after hostOps0_4 σ) main_v12 : IVec S17 32) (ValueIdx.ix1 e) = BitVec.ofNat 32 ((Plan.ends c e.val - 1) / 1024) := by
  have h := Words.lt_at (hb := bcast_S_S17) h4 (k := broadcastInDim S17 ![] bcast_S_S17 (constantI S_ 32 1#32)) (Words.const_at _ _ _ rfl) (d := at' σ main_c_4) (by rw [hk]; rfl) e he
  rw [← h11] at h
  after_reads_simp
  exact h

theorem v15_at  :
    (at' (StableHlo.after hostOps0_5 σ) main_v15 : IVec S17 32) = addi (subi (at' σ main_v12) (at' σ main_v8)) (broadcastInDim S17 ![] bcast_S_S17 (constantI S_ 32 1#32)) := by
  after_reads_simp

theorem main_c_6_at  :
    (at' (StableHlo.after hostOps0_5 σ) main_c_6 : IVec S_ 32) = constantI S_ 32 0#32 := by
  after_reads_simp

theorem v16_at {v12 v8 : IVec S17 32} (h9 : ∀ e : Fin 17, (at' σ main_v9 : IVec S17 1) (ValueIdx.ix1 e) = BitVec.ofBool (decide (Plan.starts c e.val < Plan.ends c e.val)))
    (h12 : ∀ e : Fin 17, Plan.starts c e.val < Plan.ends c e.val → v12 (ValueIdx.ix1 e) = BitVec.ofNat 32 ((Plan.ends c e.val - 1) / 1024))
    (h8 : Holds (n := 17) v8 (Plan.ft c)) (h15 : (at' σ main_v15 : IVec S17 32) = addi (subi v12 v8) (broadcastInDim S17 ![] bcast_S_S17 (constantI S_ 32 1#32)))
    (hk : (at' σ main_c_6 : IVec S_ 32) = constantI S_ 32 0#32) :
    Holds (n := 17) (at' (StableHlo.after hostOps0_6 σ) main_v16) (Plan.vis c) := by
  have h := Words.vis_at h9 h12 h8 (k := broadcastInDim S17 ![] bcast_S_S17 (constantI S_ 32 1#32)) (z := broadcastInDim S17 ![] bcast_S_S17 (at' σ main_c_6)) (Words.const_at _ _ _ rfl)
    (Words.const_at _ _ _ (by rw [hk]; rfl))
  rw [← h15] at h
  after_reads_simp
  exact h

theorem v17_at (h : Holds (n := 17) (at' σ main_v16) (Plan.vis c)) :
    Holds (n := 17) (at' (StableHlo.after hostOps0_7 σ) main_v17) (Plan.ve c) := by
  after_reads_simp
  simp -implicitDefEqProofs only [StableHlo.TRef.toBuf, StableHlo.TRef.ofBuf, cast_cast, cast_eq]
  exact Words.ve_at (h := reduceWindows_S17_S17_w17s1p16_0) (hu := h_S_) h (broadcastInDim S_ ![] bcast_S_S_ (constantI S_ 32 0#32)) (Words.const_at bcast_S_S_ (constantI S_ 32 0#32) 0#32 rfl ValueIdx.ix0)

theorem v18_at  :
    Holds (n := 112) (at' (StableHlo.after hostOps0_8 σ) main_v18) id := by
  after_reads_simp
  exact fun e => rfl

theorem v19_at (h17 : Holds (n := 17) (at' σ main_v17) (Plan.ve c)) (h18 : Holds (n := 112) (at' σ main_v18) id) :
    Holds (n := 112) (at' (StableHlo.after hostOps0_9 σ) main_v19) (Plan.grp c) := by
  after_reads_simp
  exact Words.grp_at (h₁ := bcast_S17_S17x1_0) (h₂ := bcast_S17x1_S17x112_0_1) (h₃ := bcast_S112_S1x112_1) (h₄ := bcast_S1x112_S17x112_0_1) (hw := natLt_1_32)
    (h := reducesTo_S17x112_S112_d0) (hu := h_S_) (z := constantI S_ 32 0#32) h17 h18 rfl

theorem v21_at (h : Holds (n := 112) (at' σ main_v19) (Plan.grp c)) (w : Fin 112) :
    (at' (StableHlo.after hostOps0_10 σ) main_v21 : IVec S112 1) (ValueIdx.ix1 w) = BitVec.ofBool (decide (Plan.grp c w.val ≤ 16)) := by
  after_reads_simp
  exact Words.live_at h (Words.const_at _ _ _ rfl) w

theorem v23_at (h : Holds (n := 112) (at' σ main_v19) (Plan.grp c)) :
    Holds (n := 112) (at' (StableHlo.after hostOps0_10 σ) main_v23) (fun w => min (Plan.grp c w) 16) := by
  after_reads_simp
  exact Words.gi_at h (Words.const_at _ _ _ rfl)

theorem v47_at (h : Holds (n := 112) (at' σ main_v19) (Plan.grp c)) (h8 : Holds (n := 17) (at' σ main_v8) (Plan.ft c)) (h16 : Holds (n := 17) (at' σ main_v16) (Plan.vis c))
    (h17 : Holds (n := 17) (at' σ main_v17) (Plan.ve c)) (h18 : Holds (n := 112) (at' σ main_v18) id) (w : Fin 112) (hw : Plan.grp c w.val ≤ 16) :
    (at' (StableHlo.after hostOps0_10 σ) main_v47 : IVec S112 32) (ValueIdx.ix1 w) = BitVec.ofNat 32 (Plan.ft c (Plan.grp c w.val) + w.val - (Plan.ve c (Plan.grp c w.val) - Plan.vis c (Plan.grp c w.val))) := by
  have hg := Words.gi_at h (k := broadcastInDim S112 ![] bcast_S_S112 (constantI S_ 32 16#32)) (Words.const_at _ _ _ rfl)
  after_reads_simp
  exact Words.tile_at
    (Words.take_at h8 hg (Words.const_at _ _ _ rfl) gather_S17_S112x1_S112_n_0_n_n_0_1_1 rfl rfl rfl rfl) h18
    (Words.take_at h17 hg (Words.const_at _ _ _ rfl) gather_S17_S112x1_S112_n_0_n_n_0_1_1 rfl rfl rfl rfl)
    (Words.take_at h16 hg (Words.const_at _ _ _ rfl) gather_S17_S112x1_S112_n_0_n_n_0_1_1 rfl rfl rfl rfl) w hw

theorem main_c_15_at  :
    (at' (StableHlo.after hostOps0_10 σ) main_c_15 : IVec S_ 32) = constantI S_ 32 95#32 := by
  after_reads_simp

theorem v48_at (h21 : ∀ w : Fin 112, (at' σ main_v21 : IVec S112 1) (ValueIdx.ix1 w) = BitVec.ofBool (decide (Plan.grp c w.val ≤ 16)))
    (h47 : ∀ w : Fin 112, Plan.grp c w.val ≤ 16 → (at' σ main_v47 : IVec S112 32) (ValueIdx.ix1 w) = BitVec.ofNat 32 (Plan.ft c (Plan.grp c w.val) + w.val - (Plan.ve c (Plan.grp c w.val) - Plan.vis c (Plan.grp c w.val))))
    (hk : (at' σ main_c_15 : IVec S_ 32) = constantI S_ 32 95#32) :
    Holds (n := 112) (at' (StableHlo.after hostOps0_11 σ) main_v48) (Plan.tile c) := by
  have h := Words.where_at h21 (f := fun w => Plan.ft c (Plan.grp c w) + w - (Plan.ve c (Plan.grp c w) - Plan.vis c (Plan.grp c w))) h47
    (z := broadcastInDim S112 ![] bcast_S_S112 (at' σ main_c_15)) (k := 95) (Words.const_at _ _ _ (by rw [hk]; rfl))
  after_reads_simp
  exact h

theorem v55_at (ht : Holds (n := 17) (at' σ main_v7) (Plan.starts c)) (hg : Holds (n := 112) (at' σ main_v23) (fun w => min (Plan.grp c w) 16)) :
    Holds (n := 112) (at' (StableHlo.after hostOps0_12 σ) main_v55) (fun w => Plan.starts c (min (Plan.grp c w) 16)) := by
  after_reads_simp
  exact Words.take_at ht hg (Words.const_at _ _ _ rfl) gather_S17_S112x1_S112_n_0_n_n_0_1_1 rfl rfl rfl rfl

theorem main_c_18_at  :
    (at' (StableHlo.after hostOps0_12 σ) main_c_18 : IVec S_ 32) = constantI S_ 32 0#32 := by
  after_reads_simp

theorem v56_at (h21 : ∀ w : Fin 112, (at' σ main_v21 : IVec S112 1) (ValueIdx.ix1 w) = BitVec.ofBool (decide (Plan.grp c w.val ≤ 16)))
    (hg : Holds (n := 112) (at' σ main_v55) (fun w => Plan.starts c (min (Plan.grp c w) 16)))
    (hk : (at' σ main_c_18 : IVec S_ 32) = constantI S_ 32 0#32) :
    Holds (n := 112) (at' (StableHlo.after hostOps0_13 σ) main_v56) (Plan.lo c) := by
  have h := Words.where_at h21 (x := at' σ main_v55) (f := fun w => Plan.starts c (Plan.grp c w))
    (fun w hw => (hg w).trans (congrArg (fun n => BitVec.ofNat 32 (Plan.starts c n)) (by omega)))
    (z := broadcastInDim S112 ![] bcast_S_S112 (at' σ main_c_18)) (k := 0) (Words.const_at _ _ _ (by rw [hk]; rfl))
  after_reads_simp
  exact h

theorem v63_at (ht : Holds (n := 17) (at' σ main_v4) (Plan.ends c)) (hg : Holds (n := 112) (at' σ main_v23) (fun w => min (Plan.grp c w) 16)) :
    Holds (n := 112) (at' (StableHlo.after hostOps0_14 σ) main_v63) (fun w => Plan.ends c (min (Plan.grp c w) 16)) := by
  after_reads_simp
  exact Words.take_at ht hg (Words.const_at _ _ _ rfl) gather_S17_S112x1_S112_n_0_n_n_0_1_1 rfl rfl rfl rfl

theorem main_c_21_at  :
    (at' (StableHlo.after hostOps0_14 σ) main_c_21 : IVec S_ 32) = constantI S_ 32 0#32 := by
  after_reads_simp

theorem v64_at (h21 : ∀ w : Fin 112, (at' σ main_v21 : IVec S112 1) (ValueIdx.ix1 w) = BitVec.ofBool (decide (Plan.grp c w.val ≤ 16)))
    (hg : Holds (n := 112) (at' σ main_v63) (fun w => Plan.ends c (min (Plan.grp c w) 16)))
    (hk : (at' σ main_c_21 : IVec S_ 32) = constantI S_ 32 0#32) :
    Holds (n := 112) (at' (StableHlo.after hostOps0_15 σ) main_v64) (Plan.hi c) := by
  have h := Words.where_at h21 (x := at' σ main_v63) (f := fun w => Plan.ends c (Plan.grp c w))
    (fun w hw => (hg w).trans (congrArg (fun n => BitVec.ofNat 32 (Plan.ends c n)) (by omega)))
    (z := broadcastInDim S112 ![] bcast_S_S112 (at' σ main_c_21)) (k := 0) (Words.const_at _ _ _ (by rw [hk]; rfl))
  after_reads_simp
  exact h

theorem v65_at  :
    (at' (StableHlo.after hostOps0_16 σ) main_v65 : Vec F S768x128 .f32) = shapeCast S768x128 (at' σ main_arg1 : Vec F S98304 .f32) shapeCasts_S98304_S768x128 := by
  after_reads_simp
  rfl

theorem v66_at  :
    (at' (StableHlo.after hostOps0_16 σ) main_v66 : Vec F S16x1x2048 .f32) = shapeCast S16x1x2048 (at' σ main_arg3 : Vec F S16x2048 .f32) shapeCasts_S16x2048_S16x1x2048 := by
  after_reads_simp
  rfl

/-! ## All of them, one after the other -/

/-- The contents after all the host operations before the kernel. -/
def final : Valuation τ sig (Elt F) :=
  StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (σ)))))))))))))))))

/-- The lists of operations, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

theorem after_opss : StableHlo.after opss.flatten σ = final σ := by
  unfold final
  simp only [opss, List.flatten_cons, List.flatten_nil, List.append_nil, StableHlo.after_append]

set_option maxHeartbeats 1000000 in
/-- The four tables hold the schedule of the group sizes. -/
theorem tables (h : Holds (n := 16) (at' σ main_arg4) c) (hc : ∀ e, e < 16 → c e ≤ 98304) :
    Holds (n := 112) (at' (final σ) main_v48) (Plan.tile c) ∧ Holds (n := 112) (at' (final σ) main_v23) (fun w => min (Plan.grp c w) 16)
    ∧ Holds (n := 112) (at' (final σ) main_v56) (Plan.lo c) ∧ Holds (n := 112) (at' (final σ) main_v64) (Plan.hi c) := by
  obtain ⟨s1, e1⟩ : ∃ s, s = StableHlo.after hostOps0 σ := ⟨_, rfl⟩
  obtain ⟨s2, e2⟩ : ∃ s, s = StableHlo.after hostOps0_1 s1 := ⟨_, rfl⟩
  obtain ⟨s3, e3⟩ : ∃ s, s = StableHlo.after hostOps0_2 s2 := ⟨_, rfl⟩
  obtain ⟨s4, e4⟩ : ∃ s, s = StableHlo.after hostOps0_3 s3 := ⟨_, rfl⟩
  obtain ⟨s5, e5⟩ : ∃ s, s = StableHlo.after hostOps0_4 s4 := ⟨_, rfl⟩
  obtain ⟨s6, e6⟩ : ∃ s, s = StableHlo.after hostOps0_5 s5 := ⟨_, rfl⟩
  obtain ⟨s7, e7⟩ : ∃ s, s = StableHlo.after hostOps0_6 s6 := ⟨_, rfl⟩
  obtain ⟨s8, e8⟩ : ∃ s, s = StableHlo.after hostOps0_7 s7 := ⟨_, rfl⟩
  obtain ⟨s9, e9⟩ : ∃ s, s = StableHlo.after hostOps0_8 s8 := ⟨_, rfl⟩
  obtain ⟨s10, e10⟩ : ∃ s, s = StableHlo.after hostOps0_9 s9 := ⟨_, rfl⟩
  obtain ⟨s11, e11⟩ : ∃ s, s = StableHlo.after hostOps0_10 s10 := ⟨_, rfl⟩
  obtain ⟨s12, e12⟩ : ∃ s, s = StableHlo.after hostOps0_11 s11 := ⟨_, rfl⟩
  obtain ⟨s13, e13⟩ : ∃ s, s = StableHlo.after hostOps0_12 s12 := ⟨_, rfl⟩
  obtain ⟨s14, e14⟩ : ∃ s, s = StableHlo.after hostOps0_13 s13 := ⟨_, rfl⟩
  obtain ⟨s15, e15⟩ : ∃ s, s = StableHlo.after hostOps0_14 s14 := ⟨_, rfl⟩
  obtain ⟨s16, e16⟩ : ∃ s, s = StableHlo.after hostOps0_15 s15 := ⟨_, rfl⟩
  obtain ⟨s17, e17⟩ : ∃ s, s = StableHlo.after hostOps0_16 s16 := ⟨_, rfl⟩
  have h0 : Holds (n := 16) (at' s1 main_v0) (fun e => Plan.tot c (e + 1)) := by rw [e1]; exact v0_at σ h
  have h4 : Holds (n := 17) (at' s2 main_v4) (Plan.ends c) := by rw [e2]; exact v4_at s1 hc h0
  have h7 : Holds (n := 17) (at' s2 main_v7) (Plan.starts c) := by rw [e2]; exact v7_at s1 hc h0
  have k2 : (at' s2 main_c_2 : IVec S_ 32) = constantI S_ 32 1024#32 := by rw [e2]; exact main_c_2_at s1
  have h8 : Holds (n := 17) (at' s3 main_v8) (Plan.ft c) := by rw [e3]; exact v8_at s2 h7 k2
  have q : at' s3 main_v4 = at' s2 main_v4 := by
    rw [e3]; exact (keep_2 _ (by decide))
  rw [← q] at h4; clear q
  have q : at' s3 main_v7 = at' s2 main_v7 := by
    rw [e3]; exact (keep_2 _ (by decide))
  rw [← q] at h7; clear q
  have h9 : ∀ e : Fin 17, (at' s4 main_v9 : IVec S17 1) (ValueIdx.ix1 e) = BitVec.ofBool (decide (Plan.starts c e.val < Plan.ends c e.val)) := by rw [e4]; exact v9_at s3 h4 h7
  have h11 : (at' s4 main_v11 : IVec S17 32) = subi (at' s3 main_v4) (broadcastInDim S17 ![] bcast_S_S17 (constantI S_ 32 1#32)) := by rw [e4]; exact v11_at s3
  have k4 : (at' s4 main_c_4 : IVec S_ 32) = constantI S_ 32 1024#32 := by rw [e4]; exact main_c_4_at s3
  have h12 : ∀ e : Fin 17, Plan.starts c e.val < Plan.ends c e.val → (at' s5 main_v12 : IVec S17 32) (ValueIdx.ix1 e) = BitVec.ofNat 32 ((Plan.ends c e.val - 1) / 1024) := by rw [e5]; exact fun e he => v12_at s4 h4 h11 k4 e he
  have q : at' s5 main_v8 = at' s3 main_v8 := by
    rw [e5, e4]; exact ((keep_4 _ (by decide)).trans (keep_3 _ (by decide)))
  rw [← q] at h8; clear q
  have h15 : (at' s6 main_v15 : IVec S17 32) = addi (subi (at' s5 main_v12) (at' s5 main_v8)) (broadcastInDim S17 ![] bcast_S_S17 (constantI S_ 32 1#32)) := by rw [e6]; exact v15_at s5
  have k6 : (at' s6 main_c_6 : IVec S_ 32) = constantI S_ 32 0#32 := by rw [e6]; exact main_c_6_at s5
  have q : at' s6 main_v9 = at' s4 main_v9 := by
    rw [e6, e5]; exact ((keep_5 _ (by decide)).trans (keep_4 _ (by decide)))
  rw [← q] at h9; clear q
  have h16 : Holds (n := 17) (at' s7 main_v16) (Plan.vis c) := by rw [e7]; exact v16_at s6 h9 h12 h8 h15 k6
  have h17 : Holds (n := 17) (at' s8 main_v17) (Plan.ve c) := by rw [e8]; exact v17_at s7 h16
  have h18 : Holds (n := 112) (at' s9 main_v18) (id) := by rw [e9]; exact v18_at s8
  have q : at' s9 main_v17 = at' s8 main_v17 := by
    rw [e9]; exact (keep_8 _ (by decide))
  rw [← q] at h17; clear q
  have h19 : Holds (n := 112) (at' s10 main_v19) (Plan.grp c) := by rw [e10]; exact v19_at s9 h17 h18
  have q : at' s10 main_v17 = at' s9 main_v17 := by
    rw [e10]; exact (keep_9 _ (by decide))
  rw [← q] at h17; clear q
  have q : at' s10 main_v18 = at' s9 main_v18 := by
    rw [e10]; exact (keep_9 _ (by decide))
  rw [← q] at h18; clear q
  have q : at' s10 main_v16 = at' s7 main_v16 := by
    rw [e10, e9, e8]; exact (((keep_9 _ (by decide)).trans (keep_8 _ (by decide))).trans (keep_7 _ (by decide)))
  rw [← q] at h16; clear q
  have q : at' s10 main_v8 = at' s5 main_v8 := by
    rw [e10, e9, e8, e7, e6]; exact (((((keep_9 _ (by decide)).trans (keep_8 _ (by decide))).trans (keep_7 _ (by decide))).trans (keep_6 _ (by decide))).trans (keep_5 _ (by decide)))
  rw [← q] at h8; clear q
  have h21 : ∀ w : Fin 112, (at' s11 main_v21 : IVec S112 1) (ValueIdx.ix1 w) = BitVec.ofBool (decide (Plan.grp c w.val ≤ 16)) := by rw [e11]; exact v21_at s10 h19
  have h23 : Holds (n := 112) (at' s11 main_v23) (fun w => min (Plan.grp c w) 16) := by rw [e11]; exact v23_at s10 h19
  have h47 : ∀ w : Fin 112, Plan.grp c w.val ≤ 16 → (at' s11 main_v47 : IVec S112 32) (ValueIdx.ix1 w) = BitVec.ofNat 32 (Plan.ft c (Plan.grp c w.val) + w.val - (Plan.ve c (Plan.grp c w.val) - Plan.vis c (Plan.grp c w.val))) := by rw [e11]; exact fun w hw => v47_at s10 h19 h8 h16 h17 h18 w hw
  have k15 : (at' s11 main_c_15 : IVec S_ 32) = constantI S_ 32 95#32 := by rw [e11]; exact main_c_15_at s10
  have h48 : Holds (n := 112) (at' s12 main_v48) (Plan.tile c) := by rw [e12]; exact v48_at s11 h21 h47 k15
  have q : at' s12 main_v7 = at' s3 main_v7 := by
    rw [e12, e11, e10, e9, e8, e7, e6, e5, e4]; exact (((((((((keep_11 _ (by decide)).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide)))
  rw [← q] at h7; clear q
  have q : at' s12 main_v23 = at' s11 main_v23 := by
    rw [e12]; exact (keep_11 _ (by decide))
  rw [← q] at h23; clear q
  have h55 : Holds (n := 112) (at' s13 main_v55) (fun w => Plan.starts c (min (Plan.grp c w) 16)) := by rw [e13]; exact v55_at s12 h7 h23
  have k18 : (at' s13 main_c_18 : IVec S_ 32) = constantI S_ 32 0#32 := by rw [e13]; exact main_c_18_at s12
  have q : at' s13 main_v21 = at' s11 main_v21 := by
    rw [e13, e12]; exact ((keep_12 _ (by decide)).trans (keep_11 _ (by decide)))
  rw [← q] at h21; clear q
  have h56 : Holds (n := 112) (at' s14 main_v56) (Plan.lo c) := by rw [e14]; exact v56_at s13 h21 h55 k18
  have q : at' s14 main_v4 = at' s3 main_v4 := by
    rw [e14, e13, e12, e11, e10, e9, e8, e7, e6, e5, e4]; exact (((((((((((keep_13 _ (by decide)).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide)))
  rw [← q] at h4; clear q
  have q : at' s14 main_v23 = at' s12 main_v23 := by
    rw [e14, e13]; exact ((keep_13 _ (by decide)).trans (keep_12 _ (by decide)))
  rw [← q] at h23; clear q
  have h63 : Holds (n := 112) (at' s15 main_v63) (fun w => Plan.ends c (min (Plan.grp c w) 16)) := by rw [e15]; exact v63_at s14 h4 h23
  have k21 : (at' s15 main_c_21 : IVec S_ 32) = constantI S_ 32 0#32 := by rw [e15]; exact main_c_21_at s14
  have q : at' s15 main_v21 = at' s13 main_v21 := by
    rw [e15, e14]; exact ((keep_14 _ (by decide)).trans (keep_13 _ (by decide)))
  rw [← q] at h21; clear q
  have h64 : Holds (n := 112) (at' s16 main_v64) (Plan.hi c) := by rw [e16]; exact v64_at s15 h21 h63 k21
  have q : at' s17 main_v48 = at' s12 main_v48 := by
    rw [e17, e16, e15, e14, e13]; exact (((((keep_16 _ (by decide)).trans (keep_15 _ (by decide))).trans (keep_14 _ (by decide))).trans (keep_13 _ (by decide))).trans (keep_12 _ (by decide)))
  rw [← q] at h48; clear q
  have q : at' s17 main_v23 = at' s14 main_v23 := by
    rw [e17, e16, e15]; exact (((keep_16 _ (by decide)).trans (keep_15 _ (by decide))).trans (keep_14 _ (by decide)))
  rw [← q] at h23; clear q
  have q : at' s17 main_v56 = at' s14 main_v56 := by
    rw [e17, e16, e15]; exact (((keep_16 _ (by decide)).trans (keep_15 _ (by decide))).trans (keep_14 _ (by decide)))
  rw [← q] at h56; clear q
  have q : at' s17 main_v64 = at' s16 main_v64 := by
    rw [e17]; exact (keep_16 _ (by decide))
  rw [← q] at h64; clear q
  have ef : final σ = s17 := by
    unfold final
    rw [← e1, ← e2, ← e3, ← e4, ← e5, ← e6, ← e7, ← e8, ← e9, ← e10, ← e11, ← e12, ← e13, ← e14, ← e15, ← e16, ← e17]
  rw [ef]
  exact ⟨h48, h23, h56, h64⟩

/-- Every argument is left as it was. -/
theorem arg_at {r : Ref sig .tc} (hr : r ∈ [main_arg0, main_arg1, main_arg2, main_arg3, main_arg4]) : at' (final σ) r = at' σ r := by
  unfold final
  simp only [List.mem_cons, List.not_mem_nil, or_false] at hr
  rcases hr with rfl | rfl | rfl | rfl | rfl <;>
  exact (((((((((((((((((keep_16 _ (by decide)).trans (keep_15 _ (by decide))).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

/-- The activation scales as the kernel reads them: 128 to a row. -/
theorem final_v65 : (at' (final σ) main_v65 : Vec F S768x128 .f32) = shapeCast S768x128 (at' σ main_arg1 : Vec F S98304 .f32) shapeCasts_S98304_S768x128 := by
  unfold final
  refine (v65_at _).trans (congrArg (fun x : Vec F S98304 .f32 => shapeCast S768x128 x shapeCasts_S98304_S768x128) ?_)
  exact ((((((((((((((((keep_15 _ (by decide)).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

/-- The weight scales as the kernel reads them: a row to a group. -/
theorem final_v66 : (at' (final σ) main_v66 : Vec F S16x1x2048 .f32) = shapeCast S16x1x2048 (at' σ main_arg3 : Vec F S16x2048 .f32) shapeCasts_S16x2048_S16x1x2048 := by
  unfold final
  refine (v66_at _).trans (congrArg (fun x : Vec F S16x2048 .f32 => shapeCast S16x1x2048 x shapeCasts_S16x2048_S16x1x2048) ?_)
  exact ((((((((((((((((keep_15 _ (by decide)).trans (keep_14 _ (by decide))).trans (keep_13 _ (by decide))).trans (keep_12 _ (by decide))).trans (keep_11 _ (by decide))).trans (keep_10 _ (by decide))).trans (keep_9 _ (by decide))).trans (keep_8 _ (by decide))).trans (keep_7 _ (by decide))).trans (keep_6 _ (by decide))).trans (keep_5 _ (by decide))).trans (keep_4 _ (by decide))).trans (keep_3 _ (by decide))).trans (keep_2 _ (by decide))).trans (keep_1 _ (by decide))).trans (keep_0 _ (by decide)))

end Cert.KernelIdeal.Tables
-- ==== Proof.KernelIdealRuns.lean ====
/-
  THE REGION'S SURROUNDINGS: what the host operations leave when the kernel's pipeline starts (Tables.lean), the tables read off it, and the
  blocks each input window stages.
-/
module

public import proofs.«01_k».proof.Proof.KernelIdealTables
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v48) (Memref.isWhole_whole _) (Memref.whole main_v23) (Memref.isWhole_whole _) (Memref.whole main_v56) (Memref.isWhole_whole _) (Memref.whole main_v64) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- What the host operations find on core `c`. -/
abbrev V₀ (c : Dev nD) : Valuation τ sig (Elt F) := fun b => m (c, b)

/-- Core `c`'s TensorCore buffers when the region is entered: what the host operations leave. -/
def V (c : Dev nD) (b : Ref sig .tc) : Buf (Elt F) ((c : Thread nD τ).loc b) := Tables.final (V₀ m c) (Proc.devRef .tc b)

theorem V_eq : V m = fun c (b : Ref sig .tc) => StableHlo.after (Tables.opss (F := F)).flatten (fun b => m (c, b)) (Proc.devRef .tc b) := by
  funext c b; unfold V; rw [Tables.after_opss]; try rfl

/-- @main up to the region: seventeen stretches of host operations, then the region. -/
theorem hmain (𝒱₀ : Variants) : Pipeline.HMainP (Ix := Unit) (Name := ℕ) (U := UR sig nD τ) (Lvl := ℕ) pcfgs 0 defs₀ 𝒱₀ m (main (F := F)) (V m) := by
  rw [V_eq]
  exact Pipeline.hmainP_prefixes pcfgs 0 defs₀ 𝒱₀ m main Tables.opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
    (by repeat (first | exact trivial | constructor | rfl))
    fun c => (main_chain c).trans rfl

theorem V_main_arg0 (c : Dev nD) : V m c main_arg0 = m ((c : Thread nD τ).loc main_arg0) := Tables.arg_at (V₀ m c) (by decide)
theorem V_main_arg1 (c : Dev nD) : V m c main_arg1 = m ((c : Thread nD τ).loc main_arg1) := Tables.arg_at (V₀ m c) (by decide)
theorem V_main_arg2 (c : Dev nD) : V m c main_arg2 = m ((c : Thread nD τ).loc main_arg2) := Tables.arg_at (V₀ m c) (by decide)
theorem V_main_arg3 (c : Dev nD) : V m c main_arg3 = m ((c : Thread nD τ).loc main_arg3) := Tables.arg_at (V₀ m c) (by decide)
theorem V_main_arg4 (c : Dev nD) : V m c main_arg4 = m ((c : Thread nD τ).loc main_arg4) := Tables.arg_at (V₀ m c) (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (`True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S112 .i32 := Memref.whole main_v48
abbrev htbM0_0 : tbM0_0.IsWhole := Memref.isWhole_whole _
abbrev tbM0_1 : Memref sig .tc .smem S112 .i32 := Memref.whole main_v23
abbrev htbM0_1 : tbM0_1.IsWhole := Memref.isWhole_whole _
abbrev tbM0_2 : Memref sig .tc .smem S112 .i32 := Memref.whole main_v56
abbrev htbM0_2 : tbM0_2.IsWhole := Memref.isWhole_whole _
abbrev tbM0_3 : Memref sig .tc .smem S112 .i32 := Memref.whole main_v64
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x1408 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S8x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1408x2048 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x2048 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.KernelIdeal.Run

end
-- ==== Proof.KernelIdealBody.lean ====
/-
  THE BODY AT ONE POINT: what the kernel leaves in the output buffer, from the four table words of the point, the staged inputs and the
  buffer as it found it.
-/
module

public import proofs.«01_k».proof.Proof.KernelIdealRuns

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a table at a grid point. -/
def word (x : Vec F S112 .i32) (i : grid0.Coords) : BitVec 32 := x ((Rect.unit (s := S112) (k0_off1 i) S1.size (k0_off1_inb i)).emb (Shape.Idx.first (numel1_S1.symm ▸ Nat.one_pos)))

/-- The scales of the point's rows, laid out as columns, and those of its group's output columns. -/
def xsc (x1 : Vec F S8x128 .f32) : FVec F S128x8 .f32 := k0_pay1 (View.ld x1 (Rect.unit (s := S8x128) ![0, 0] S8x128.size inb_S8x128_S8x128_0_0))
def wsc (x3 : Vec F S1x1x2048 .f32) : FVec F S1x2048 .f32 := k0_pay2 (View.ld x3 (Rect.unit (s := S1x1x2048) ![0, 0, 0] S1x1x2048.size inb_S1x1x2048_S1x1x2048_0_0_0))
/-- The group's matrix as loaded. -/
def wmat (x2 : Vec F S1x1408x2048 .fp8e4m3) : Vec F S1x1408x2048 .fp8e4m3 := View.ld x2 (Rect.unit (s := S1x1408x2048) ![0, 0, 0] S1x1408x2048.size inb_S1x1408x2048_S1x1408x2048_0_0_0)

/-- What the point stores, four chunks of 256 rows over one another's complement. -/
def outBuf (v1 v3 v5 v8 : BitVec 32) (x0 : Vec F S1024x1408 .fp8e4m3) (x1 : Vec F S8x128 .f32) (x2 : Vec F S1x1408x2048 .fp8e4m3) (x3 : Vec F S1x1x2048 .f32) (x4 : Vec F S1024x2048 .bf16) : Vec F S1024x2048 .bf16 :=
  View.canon (Val := Elt F) (s := S1024x2048) (e := .bf16)
    [⟨(Rect.unit (s := S1024x2048) ![768, 0] S256x2048.size inb_S1024x2048_S256x2048_768_0), k0_pay9 v1 v3 (Scalar.muli v5 1024#32) (Scalar.cmpi .slt v8 16#32) (xsc x1) (wsc x3) (View.ld x0 (Rect.unit (s := S1024x1408) ![768, 0] S256x1408.size inb_S1024x1408_S256x1408_768_0)) (wmat x2) (View.ld x4 (Rect.unit (s := S1024x2048) ![768, 0] S256x2048.size inb_S1024x2048_S256x2048_768_0))⟩,
     ⟨(Rect.unit (s := S1024x2048) ![512, 0] S256x2048.size inb_S1024x2048_S256x2048_512_0), k0_pay8 v3 (Scalar.cmpi .slt v8 16#32) (k0_pay5 (xsc x1) (wsc x3) (View.ld x0 (Rect.unit (s := S1024x1408) ![512, 0] S256x1408.size inb_S1024x1408_S256x1408_512_0)) (wmat x2)) (k0_pay6 (Scalar.muli v5 1024#32)) (k0_pay7 (F := F) v1 (Scalar.muli v5 1024#32)) (View.ld x4 (Rect.unit (s := S1024x2048) ![512, 0] S256x2048.size inb_S1024x2048_S256x2048_512_0))⟩,
     ⟨(Rect.unit (s := S1024x2048) ![256, 0] S256x2048.size inb_S1024x2048_S256x2048_256_0), k0_pay4 v1 v3 (Scalar.muli v5 1024#32) (Scalar.cmpi .slt v8 16#32) (xsc x1) (wsc x3) (View.ld x0 (Rect.unit (s := S1024x1408) ![256, 0] S256x1408.size inb_S1024x1408_S256x1408_256_0)) (wmat x2) (View.ld x4 (Rect.unit (s := S1024x2048) ![256, 0] S256x2048.size inb_S1024x2048_S256x2048_256_0))⟩,
     ⟨(Rect.unit (s := S1024x2048) ![0, 0] S256x2048.size inb_S1024x2048_S256x2048_0_0), k0_pay3 v1 v3 (Scalar.muli v5 1024#32) (Scalar.cmpi .slt v8 16#32) (View.ld x1 (Rect.unit (s := S8x128) ![0, 0] S8x128.size inb_S8x128_S8x128_0_0)) (View.ld x3 (Rect.unit (s := S1x1x2048) ![0, 0, 0] S1x1x2048.size inb_S1x1x2048_S1x1x2048_0_0_0)) (View.ld x0 (Rect.unit (s := S1024x1408) ![0, 0] S256x1408.size inb_S1024x1408_S256x1408_0_0)) (wmat x2) (View.ld x4 (Rect.unit (s := S1024x2048) ![0, 0] S256x2048.size inb_S1024x2048_S256x2048_0_0))⟩]

/-- What the point leaves in the output buffer: what it stores where its row range is not empty, else what it found. -/
def leaves (v1 v3 v5 v8 : BitVec 32) (x0 : Vec F S1024x1408 .fp8e4m3) (x1 : Vec F S8x128 .f32) (x2 : Vec F S1x1408x2048 .fp8e4m3) (x3 : Vec F S1x1x2048 .f32) (x4 : Vec F S1024x2048 .bf16) : Vec F S1024x2048 .bf16 :=
  if k0_cond1 v1 v3 = 1#1 then outBuf v1 v3 v5 v8 x0 x1 x2 x3 x4 else x4

/-- The four chunks cover the buffer. -/
theorem cover4 (w3 w2 w1 w0 : FVec F S256x2048 .bf16) (x : S1024x2048.Idx) : ∃ p ∈ ([⟨(Rect.unit (s := S1024x2048) ![768, 0] S256x2048.size inb_S1024x2048_S256x2048_768_0), w3⟩, ⟨(Rect.unit (s := S1024x2048) ![512, 0] S256x2048.size inb_S1024x2048_S256x2048_512_0), w2⟩, ⟨(Rect.unit (s := S1024x2048) ![256, 0] S256x2048.size inb_S1024x2048_S256x2048_256_0), w1⟩, ⟨(Rect.unit (s := S1024x2048) ![0, 0] S256x2048.size inb_S1024x2048_S256x2048_0_0), w0⟩] : List (View.Piece (Elt F) S1024x2048 .bf16)), x ∈ p.1.set :=
  View.cover_of_tiled (s := S1024x2048) _ S256x2048.size rfl x

set_option maxHeartbeats 1000000 in
/-- The body's triple on whole staging memrefs and the tables' halves. -/
theorem kernelRun (c : Dev nD) (i : grid0.Coords) (arg5 : Memref sig .tc .vmem S1024x1408 .fp8e4m3) (harg5 : arg5.IsWhole) (arg6 : Memref sig .tc .vmem S8x128 .f32) (harg6 : arg6.IsWhole) (arg7 : Memref sig .tc .vmem S1x1408x2048 .fp8e4m3) (harg7 : arg7.IsWhole) (arg8 : Memref sig .tc .vmem S1x1x2048 .f32) (harg8 : arg8.IsWhole) (arg9 : Memref sig .tc .vmem S1024x2048 .bf16) (harg9 : arg9.IsWhole)
    (x0 : Vec F S1024x1408 .fp8e4m3) (x1 : Vec F S8x128 .f32) (x2 : Vec F S1x1408x2048 .fp8e4m3) (x3 : Vec F S1x1x2048 .f32) (x4 : Vec F S1024x2048 .bf16) (xt0 : TbBuf0 (F := F) c tbM0_0) (xt1 : TbBuf0 (F := F) c tbM0_1) (xt2 : TbBuf0 (F := F) c tbM0_2) (xt3 : TbBuf0 (F := F) c tbM0_3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (leaves (word xt2 i) (word xt3 i) (word xt0 i) (word xt1 i) x0 x1 x2 x3 x4) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__body i tbM0_0 htbM0_0 tbM0_1 htbM0_1 tbM0_2 htbM0_2 tbM0_3 htbM0_3 arg5 harg5 arg6 harg6 arg7 harg7 arg8 harg8 arg9 harg9) K := by
    intro E K
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      unfold leaves
      by_cases h : k0_cond1 (word xt2 i) (word xt3 i) = 1#1
      · refine (congrArg (View.read (Elt F) arg9.view) (dif_pos (c := k0_cond1 (kernelRun.sl.r c i xt2) (kernelRun.sl.r_1 c i xt3) = 1#1) h)).trans ?_
        rw [if_pos h]
        refine (View.read_writes_eq_canon _ _ _ (cover4 _ _ _ _)).trans ?_
        refine Eq.trans (b := outBuf (word xt2 i) (word xt3 i) (word xt0 i) (word xt1 i) (View.read (Elt F) arg5.view (harg5.unread x0)) (View.read (Elt F) arg6.view (harg6.unread x1)) (View.read (Elt F) arg7.view (harg7.unread x2)) (View.read (Elt F) arg8.view (harg8.unread x3)) (View.read (Elt F) arg9.view (harg9.unread x4))) rfl ?_
        rw [hf0, hf1, hf2, hf3, hf4]
      · refine (congrArg (View.read (Elt F) arg9.view) (dif_neg (c := k0_cond1 (kernelRun.sl.r c i xt2) (kernelRun.sl.r_1 c i xt3) = 1#1) h)).trans ?_
        rw [if_neg h]; exact hf4
    isplitl [HT0]; · iexact HT0
    isplitl [HT1]; · iexact HT1
    isplitl [HT2]; · iexact HT2
    iexact HT3

end Cert.KernelIdeal.Run
-- ==== Proof.KernelIdealRun.lean ====
/-
  THE RUN: @main runs to the end from any memory whose tables keep the windows inside their arrays; the output buffer of the kernel is held,
  point by point, to a predicate that the caller names (an output window first holds unknown contents, so what is left in it is a relation
  to what was found, not a function of the inputs).
-/
module

public import proofs.«01_k».proof.Proof.KernelIdealBody
public import Idealize.ShloMosaic.Lib.Pipeline.DatRel
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window, held to a predicate. -/
def forgets0 : Fin 5 → Bool := fun w => w.val == 4

/-- The proof data of the pipeline on core `c`: the arrays as the region finds them; after the body each input's buffer at its block, the
    output's unnamed; the tables' halves pass through. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The predicate on the windows: `P` of the output, nothing of the others. -/
def Rl (hO : Ok m) (P : Fin (cfgM m hO).N → Vec F S1024x2048 .bf16 → Prop) : (w : Fin (cfgM m hO).W) → (t : Fin (cfgM m hO).N) → (((cfgM m hO).win w).block.Idx → Elt F ((cfgM m hO).win w).elt) → Prop :=
  fun w t => match w with
    | ⟨0, _⟩ => fun _ => True
    | ⟨1, _⟩ => fun _ => True
    | ⟨2, _⟩ => fun _ => True
    | ⟨3, _⟩ => fun _ => True
    | ⟨4, _⟩ => fun X => P t X

/-- The data with the output window held to `P`. -/
abbrev rdat (hO : Ok m) (P : Fin (cfgM m hO).N → Vec F S1024x2048 .bf16 → Prop) (c : Dev nD) := (dats m hO 0 c).toRRel forgets0 (Rl m hO P)

/-- What the body may find in the output window at `t`. -/
def Found (hO : Ok m) (P : Fin (cfgM m hO).N → Vec F S1024x2048 .bf16 → Prop) (c : Dev nD) (t : Fin (cfgM m hO).N) (Y : Vec F S1024x2048 .bf16) : Prop :=
  (rdat m hO P c).Finds (4 : Fin 5) t Y

/-- What the body leaves in the output window at `t` where it finds `Y`. -/
def left (hO : Ok m) (c : Dev nD) (t : Fin (cfgM m hO).N) (Y : Vec F S1024x2048 .bf16) : Vec F S1024x2048 .bf16 :=
  leaves (word (tbl m 2) (grid0.coords t)) (word (tbl m 3) (grid0.coords t)) (word (tbl m 0) (grid0.coords t)) (word (tbl m 1) (grid0.coords t))
    (iblk m hO c 0 t) (iblk m hO c 1 t) (iblk m hO c 2 t) (iblk m hO c 3 t) Y

/-! ## The body obligation, at a generic point -/

/-- What the body is called with at point `t`, -/
def bodyPre (hO : Ok m) (P : Fin (cfgM m hO).N → Vec F S1024x2048 .bf16 → Prop) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ Y, ⌜Found m hO P c t Y⌝ ∗ owns (c : Thread nD τ) (ms0_4 m hO t) fullShare Y))

/-- and what it returns. -/
def bodyPost (hO : Ok m) (P : Fin (cfgM m hO).N → Vec F S1024x2048 .bf16 → Prop) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ X, ⌜P t X⌝ ∗ owns (c : Thread nD τ) (ms0_4 m hO t) fullShare X))

/-- The body at any point, `P` kept by what it leaves. -/
theorem sound_body (hO : Ok m) (P : Fin (cfgM m hO).N → Vec F S1024x2048 .bf16 → Prop) (c : Dev nD) (t : Fin (cfgM m hO).N)
    (hP : ∀ Y, Found m hO P c t Y → P t (left m hO c t Y)) :
    bodyPre m hO P c t ⊢ wp frame (wpE (defs₀ (F := F)) Variants.none c none) Set.univ (bodyAt0 (adm m hO) t) (fun _ => bodyPost m hO P c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%Y, %hY, H4⟩⟩
  iapply ((kernelRun c (grid0.coords t) _ _ _ _ _ _ _ _ _ _ (iblk m hO c 0 t) (iblk m hO c 1 t) (iblk m hO c 2 t) (iblk m hO c 3 t) Y (tbl m 0) (tbl m 1) (tbl m 2) (tbl m 3)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists (left m hO c t Y)
  isplitr
  · ipureintro; exact hP Y hY
  · iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (P : Fin (cfgM m hO).N → Vec F S1024x2048 .bf16 → Prop) (c : Dev nD)
    (hP : ∀ t Y, Found m hO P c t Y → P t (left m hO c t Y)) :
    Pipeline.BodyObligationRel (dats (F := F) m hO 0 c) (defs₀ (F := F)) Variants.none () Set.univ forgets0 (Rl m hO P) := fun t => by
  rw [bigSep_W0, bigSep_W0, defs₀_row m hO]
  exact triple_restated (sound_body m hO P c t (hP t)) rfl .rfl fun _ => .rfl

/-! ## The run and the frame -/

set_option backward.isDefEq.respectTransparency.types false in
/-- THE LAUNCH: @main runs to the end, the arrays as the relational data say and every semaphore counter at zero. -/
theorem run_main_quiescent (hO : Ok m) (P : Fin (cfgM m hO).N → Vec F S1024x2048 .bf16 → Prop) (hP : ∀ c t Y, Found m hO P c t Y → P t (left m hO c t Y)) :
    θ_run defs (onTc (τ := τ) (main (F := F))) (s₀ m ρ) (fun r => (Pipeline.RDat.FramePost ((Pipeline.pin pcfgs fun _ => adm m hO) 0) (fun c => rdat m hO P c) (V m)) r ∧ r.2.sem = fun _ => 0) :=
  Pipeline.RDat.θ_run_frameP (Q' := _) pcfgs (fun _ => adm m hO) (0 : Fin 1) launch0 defs₀ Variants.none (fun c => rdat m hO P c) m ρ main
    (hbody := fun c => (body_obligation m hO P c (hP c)).toRRel) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) (P : Fin (cfgM m hO).N → Vec F S1024x2048 .bf16 → Prop) (hP : ∀ c t Y, Found m hO P c t Y → P t (left m hO c t Y)) :
    θ_run defs (onTc (τ := τ) (main (F := F))) (s₀ m ρ) (Pipeline.RDat.FramePost ((Pipeline.pin pcfgs fun _ => adm m hO) 0) (fun c => rdat m hO P c) (V m)) :=
  (θ_run defs _ _).mono (fun _ h => h.1) (run_main_quiescent m ρ hO P hP)

/-- THE FRAME: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (fun c => rdat m hO (fun _ _ => True) c) (A_eq m hO) (run_main m ρ hO _ fun _ _ _ _ => trivial))
    ((θ_run defs _ _).mono (fun _ h => h.2) (run_main_quiescent m ρ hO (fun _ _ => True) fun _ _ _ _ => trivial))

end Cert.KernelIdeal.Run
-- ==== Proof.KernelIdealSched.lean ====
/-
  THE SCHEDULE OF A LAUNCH: the four tables' words at a grid point as numbers (Plan.lean), the windows inside their arrays, and the group
  sizes' range read off the precondition.
-/
module

public import proofs.«01_k».proof.Proof.KernelIdealRun
public import proofs.«01_k».proof.Proof.Gen.Pre_sizes_in_range

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Words (Holds)

/-- A table's word at a point is its entry at the point's number. -/
theorem word_eq (x : Vec F S112 .i32) (i : grid0.Coords) : word x i = x (ValueIdx.ix1 (i 0)) := by
  unfold word
  congr 1
  funext a
  obtain rfl : a = 0 := Subsingleton.elim _ _
  apply Fin.ext
  have h : ∀ n : Fin 112, (Scalar.indexCast (BitVec.ofNat 32 n.val)).toNat = n.val := by decide
  have h0 := h (i 0)
  exact h0

theorem coords_val : ∀ t : Fin 112, (grid0.coords t 0).val = t.val := by decide

/-- The blocks are inside their arrays where the tile is below 96. -/
theorem ok_of_words (pf : pre0.Contents (Elt F)) (h0 : ∀ i, (word (F := F) (pf 0) i).toNat < 96)
    (h1 : ∀ i, (Scalar.minsi (word (F := F) (pf 1) i) 15#32).toNat < 16) : ok0 pf := by
  have e0 : ∀ i, cc0_transform_0 k0_off1_inb numel1_S1 pf i = ![(word (F := F) (pf 0) i).toNat, 0] := fun _ => rfl
  have e1 : ∀ i, cc0_transform_1 k0_off1_inb numel1_S1 pf i = ![(word (F := F) (pf 0) i).toNat, 0] := fun _ => rfl
  have e2 : ∀ i, cc0_transform_2 k0_off1_inb numel1_S1 pf i = ![(Scalar.minsi (word (F := F) (pf 1) i) 15#32).toNat, 0, 0] := fun _ => rfl
  have e3 : ∀ i, cc0_transform_3 k0_off1_inb numel1_S1 pf i = ![(Scalar.minsi (word (F := F) (pf 1) i) 15#32).toNat, 0, 0] := fun _ => rfl
  have e4 : ∀ i, cc0_transform_4 k0_off1_inb numel1_S1 pf i = ![(word (F := F) (pf 0) i).toNat, 0] := fun _ => rfl
  refine ⟨fun i => ⟨?_, .inr ?_⟩, fun i => ⟨?_, .inl rfl⟩, fun i => ⟨?_, .inr ?_⟩, fun i => ⟨?_, .inl rfl⟩, fun i => ⟨?_, .inr ?_⟩⟩
  · rw [e0]; intro a; have := h0 i
    fin_cases a
    · show ((word (F := F) (pf 0) i).toNat + 1) * 1024 ≤ 98304; omega
    · show (0 + 1) * 1408 ≤ 1408; omega
  · refine .inl (.inr ⟨by decide, rfl, .inl ⟨?_, ?_⟩⟩)
    · show _ ∣ (cc0_transform_0 k0_off1_inb numel1_S1 pf i 0) * 1024
      exact Dvd.dvd.mul_left (by decide) _
    · show 4 ∣ 1024; decide
  · rw [e1]; intro a; have := h0 i
    fin_cases a
    · show ((word (F := F) (pf 0) i).toNat + 1) * 8 ≤ 768; omega
    · show (0 + 1) * 128 ≤ 128; omega
  · rw [e2]; intro a; have := h1 i
    fin_cases a
    · show ((Scalar.minsi (word (F := F) (pf 1) i) 15#32).toNat + 1) * 1 ≤ 16; omega
    · show (0 + 1) * 1408 ≤ 1408; omega
    · show (0 + 1) * 2048 ≤ 2048; omega
  · refine .inl (.inr ⟨by decide, rfl, .inl ⟨?_, ?_⟩⟩)
    · show _ ∣ 0 * 1408
      exact Dvd.dvd.mul_left (by decide) _
    · show 4 ∣ 1408; decide
  · rw [e3]; intro a; have := h1 i
    fin_cases a
    · show ((Scalar.minsi (word (F := F) (pf 1) i) 15#32).toNat + 1) * 1 ≤ 16; omega
    · show (0 + 1) * 1 ≤ 1; omega
    · show (0 + 1) * 2048 ≤ 2048; omega
  · rw [e4]; intro a; have := h0 i
    fin_cases a
    · show ((word (F := F) (pf 0) i).toNat + 1) * 1024 ≤ 98304; omega
    · show (0 + 1) * 2048 ≤ 2048; omega
  · refine .inl (.inr ⟨by decide, rfl, .inl ⟨?_, ?_⟩⟩)
    · show _ ∣ (cc0_transform_4 k0_off1_inb numel1_S1 pf i 0) * 1024
      exact Dvd.dvd.mul_left (by decide) _
    · show 2 ∣ 1024; decide

/-! ## The group sizes' range -/

/-- The group sizes as numbers. -/
def size (g : IVec S16 32) (e : Nat) : Nat := if h : e < 16 then (g (ValueIdx.ix1 ⟨e, h⟩)).toNat else 0

theorem size_holds (g : IVec S16 32) : Holds (n := 16) g (size g) := by
  intro e
  unfold size
  rw [dif_pos e.isLt]
  exact (BitVec.ofNat_toNat _ _).symm ▸ by simp

/-- Where the precondition holds every size is at most the number of rows. -/
theorem size_le (x0 : FVec F Cert.Pre_sizes_in_range.S98304x1408 .fp8e4m3) (x1 : FVec F Cert.Pre_sizes_in_range.S98304 .f32) (x2 : FVec F Cert.Pre_sizes_in_range.S16x1408x2048 .fp8e4m3)
    (x3 : FVec F Cert.Pre_sizes_in_range.S16x2048 .f32) (g : IVec S16 32)
    (h : @Cert.Pre_sizes_in_range.fn Cert.Pre_sizes_in_range.Gen.facts F _ x0 x1 x2 x3 g = fun _ => 1#1) (e : Nat) (he : e < 16) : size g e ≤ 98304 := by
  unfold size
  rw [dif_pos he]
  have h1 : (BitVec.ofBool ((0#32).sle (g (ValueIdx.ix1 ⟨e, he⟩))) &&& BitVec.ofBool ((g (ValueIdx.ix1 ⟨e, he⟩)).sle 98304#32) : BitVec 1) = 1#1 := congrFun h (ValueIdx.ix1 ⟨e, he⟩)
  generalize g (ValueIdx.ix1 ⟨e, he⟩) = w at h1
  have h2 : (0#32).sle w = true ∧ w.sle 98304#32 = true := by
    cases ha : (0#32).sle w <;> cases hb : w.sle 98304#32 <;> rw [ha, hb] at h1 <;> first | exact ⟨rfl, rfl⟩ | exact absurd h1 (by decide)
  obtain ⟨ha, hb⟩ := h2
  rw [BitVec.sle_eq_decide, decide_eq_true_iff] at ha hb
  have h0 : (0#32).toInt = 0 := by decide
  have h9 : (98304#32).toInt = 98304 := by decide
  rw [h0] at ha
  rw [h9] at hb
  rw [BitVec.toInt_eq_toNat_cond] at ha hb
  split_ifs at ha hb <;> omega

/-! ## The tables at a launch -/

section Launch

variable (m : (ℓ : Loc nD τ sig) → Buf (Elt F) ℓ)

/-- The launch's group sizes as numbers, one device's. -/
abbrev sz : Nat → Nat := size (m (((0 : Dev nD) : Thread nD τ).loc main_arg4) : IVec S16 32)

variable (hc : ∀ e, e < 16 → sz m e ≤ 98304)

include hc in
theorem tbl_holds : Holds (n := 112) (tbl m 0) (Plan.tile (sz m)) ∧ Holds (n := 112) (tbl m 1) (fun w => min (Plan.grp (sz m) w) 16)
    ∧ Holds (n := 112) (tbl m 2) (Plan.lo (sz m)) ∧ Holds (n := 112) (tbl m 3) (Plan.hi (sz m)) :=
  Tables.tables (V₀ m 0) (c := sz m) (size_holds _) hc

include hc in
theorem word0 (i : grid0.Coords) : word (F := F) (tbl m 0) i = BitVec.ofNat 32 (Plan.tile (sz m) (i 0).val) := (word_eq _ _).trans ((tbl_holds m hc).1 (i 0))
include hc in
theorem word1 (i : grid0.Coords) : word (F := F) (tbl m 1) i = BitVec.ofNat 32 (min (Plan.grp (sz m) (i 0).val) 16) := (word_eq _ _).trans ((tbl_holds m hc).2.1 (i 0))
include hc in
theorem word2 (i : grid0.Coords) : word (F := F) (tbl m 2) i = BitVec.ofNat 32 (Plan.lo (sz m) (i 0).val) := (word_eq _ _).trans ((tbl_holds m hc).2.2.1 (i 0))
include hc in
theorem word3 (i : grid0.Coords) : word (F := F) (tbl m 3) i = BitVec.ofNat 32 (Plan.hi (sz m) (i 0).val) := (word_eq _ _).trans ((tbl_holds m hc).2.2.2 (i 0))

/-- The block row of the group's window: the group, held below sixteen. -/
theorem group_word : ∀ n : Fin 17, (Scalar.minsi (BitVec.ofNat 32 n.val) 15#32).toNat = min n.val 15 := by decide

include hc in
theorem ok : Ok m := ok_of_words _
  (fun i => by
    rw [word0 m hc, BitVec.toNat_ofNat]
    have := Plan.tile_lt (sz m) (i 0).val
    omega)
  (fun i => by
    rw [word1 m hc, group_word ⟨min (Plan.grp (sz m) (i 0).val) 16, by omega⟩]
    show min (min (Plan.grp (sz m) (i 0).val) 16) 15 < 16
    omega)

end Launch

end Cert.KernelIdeal.Run
-- ==== Proof.KernelIdealCell.lean ====
/-
  ONE ELEMENT OF WHAT A GRID POINT STORES, over the extended reals: the row's product with the group's matrix under the two scales where
  the row belongs to the point's range, zero there when no group owns it, and elsewhere what the buffer held.
-/
module

public import proofs.«01_k».proof.Proof.KernelIdealSched
public import Idealize.ShloMosaic.Lib.Pointwise

@[expose] public section

set_option maxRecDepth 16384

noncomputable section

namespace Cert.KernelIdeal.Run

open Cert.KernelIdeal.Gen
open Idealize.ShloMosaic Idealize.ShloMosaic.Pointwise

/-- The scaled product at a row of the block. -/
def prod (x0 : Vec Ideal S1024x1408 .fp8e4m3) (x1 : Vec Ideal S8x128 .f32) (x2 : Vec Ideal S1x1408x2048 .fp8e4m3) (x3 : Vec Ideal S1x1x2048 .f32) (r : Fin 1024) (c : Fin 2048) : EReal :=
  ((∑ k : Fin 1408, x0 (ix2 r k) * x2 (ix3 0 k c)) * x1 (ix2 ⟨r.val / 128, by omega⟩ ⟨r.val % 128, by omega⟩)) * x3 (ix3 0 0 c)

/-- The row's number as the body computes it. -/
def rowWord (v5 : BitVec 32) (r : Nat) : BitVec 32 := v5 * 1024#32 + BitVec.ofNat 32 r

/-- One element of what the point stores. -/
def cell (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 1024) (c : Fin 2048) : EReal :=
  Scalar.select (IntOp.andi (IntOp.cmpi .sge (rowWord v5 r.val) v1) (IntOp.cmpi .slt (rowWord v5 r.val) v3))
    (Scalar.select (Scalar.cmpi .slt v8 16#32) (prod x0 x1 x2 x3 r c) (0 : EReal)) (x4 (ix2 r c))

theorem rowWord_chunk (v5 : BitVec 32) (k r : Nat) :
    IntOp.addi (Scalar.addi (Scalar.muli v5 1024#32) (BitVec.ofNat 32 k)) (BitVec.ofNat 32 r) = rowWord v5 (k + r) := by
  unfold rowWord
  rw [BitVec.ofNat_add, ← BitVec.add_assoc]
  rfl

theorem chunk0 (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 256) (c : Fin 2048) :
    k0_pay3 (F := Ideal) v1 v3 (Scalar.muli v5 1024#32) (Scalar.cmpi .slt v8 16#32) (View.ld x1 (Rect.unit (s := S8x128) ![0, 0] S8x128.size inb_S8x128_S8x128_0_0)) (View.ld x3 (Rect.unit (s := S1x1x2048) ![0, 0, 0] S1x1x2048.size inb_S1x1x2048_S1x1x2048_0_0_0)) (View.ld x0 (Rect.unit (s := S1024x1408) ![0, 0] S256x1408.size inb_S1024x1408_S256x1408_0_0)) (wmat x2) (View.ld x4 (Rect.unit (s := S1024x2048) ![0, 0] S256x2048.size inb_S1024x2048_S256x2048_0_0)) (ix2 r c) = cell v1 v3 v5 v8 x0 x1 x2 x3 x4 ⟨0 + r.val, by omega⟩ c := by
  have hx : (if h : r.val < 128 then x1 (ix2 0 ⟨r.val, h⟩) else x1 (ix2 1 ⟨r.val - 128, by omega⟩)) = x1 (ix2 ⟨(0 + r.val) / 128, by omega⟩ ⟨(0 + r.val) % 128, by omega⟩) := by
    split
    · congr 2
      · apply Fin.ext; show 0 = (0 + r.val) / 128; omega
      · apply Fin.ext; show r.val = (0 + r.val) % 128; omega
    · congr 2
      · apply Fin.ext; show 1 = (0 + r.val) / 128; omega
      · apply Fin.ext; show r.val - 128 = (0 + r.val) % 128; omega
  unfold cell prod
  rw [← hx]
  simp only [← rowWord_chunk]
  pointwise [k0_pay3, wmat, k0_pay1, k0_pay2]

theorem chunk256 (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 256) (c : Fin 2048) :
    k0_pay4 (F := Ideal) v1 v3 (Scalar.muli v5 1024#32) (Scalar.cmpi .slt v8 16#32) (xsc x1) (wsc x3) (View.ld x0 (Rect.unit (s := S1024x1408) ![256, 0] S256x1408.size inb_S1024x1408_S256x1408_256_0)) (wmat x2) (View.ld x4 (Rect.unit (s := S1024x2048) ![256, 0] S256x2048.size inb_S1024x2048_S256x2048_256_0)) (ix2 r c) = cell v1 v3 v5 v8 x0 x1 x2 x3 x4 ⟨256 + r.val, by omega⟩ c := by
  have hx : (if h : r.val < 128 then x1 (ix2 2 ⟨r.val, h⟩) else x1 (ix2 3 ⟨r.val - 128, by omega⟩)) = x1 (ix2 ⟨(256 + r.val) / 128, by omega⟩ ⟨(256 + r.val) % 128, by omega⟩) := by
    split
    · congr 2
      · apply Fin.ext; show 2 = (256 + r.val) / 128; omega
      · apply Fin.ext; show r.val = (256 + r.val) % 128; omega
    · congr 2
      · apply Fin.ext; show 3 = (256 + r.val) / 128; omega
      · apply Fin.ext; show r.val - 128 = (256 + r.val) % 128; omega
  unfold cell prod
  rw [← hx]
  simp only [← rowWord_chunk]
  pointwise [k0_pay4, xsc, wsc, wmat, k0_pay1, k0_pay2]

theorem chunk512 (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 256) (c : Fin 2048) :
    k0_pay8 (F := Ideal) v3 (Scalar.cmpi .slt v8 16#32) (k0_pay5 (xsc x1) (wsc x3) (View.ld x0 (Rect.unit (s := S1024x1408) ![512, 0] S256x1408.size inb_S1024x1408_S256x1408_512_0)) (wmat x2)) (k0_pay6 (Scalar.muli v5 1024#32)) (k0_pay7 (F := Ideal) v1 (Scalar.muli v5 1024#32)) (View.ld x4 (Rect.unit (s := S1024x2048) ![512, 0] S256x2048.size inb_S1024x2048_S256x2048_512_0)) (ix2 r c) = cell v1 v3 v5 v8 x0 x1 x2 x3 x4 ⟨512 + r.val, by omega⟩ c := by
  have hx : (if h : r.val < 128 then x1 (ix2 4 ⟨r.val, h⟩) else x1 (ix2 5 ⟨r.val - 128, by omega⟩)) = x1 (ix2 ⟨(512 + r.val) / 128, by omega⟩ ⟨(512 + r.val) % 128, by omega⟩) := by
    split
    · congr 2
      · apply Fin.ext; show 4 = (512 + r.val) / 128; omega
      · apply Fin.ext; show r.val = (512 + r.val) % 128; omega
    · congr 2
      · apply Fin.ext; show 5 = (512 + r.val) / 128; omega
      · apply Fin.ext; show r.val - 128 = (512 + r.val) % 128; omega
  unfold cell prod
  rw [← hx]
  simp only [← rowWord_chunk]
  pointwise [k0_pay8, k0_pay5, k0_pay6, k0_pay7, xsc, wsc, wmat, k0_pay1, k0_pay2]

theorem chunk768 (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 256) (c : Fin 2048) :
    k0_pay9 (F := Ideal) v1 v3 (Scalar.muli v5 1024#32) (Scalar.cmpi .slt v8 16#32) (xsc x1) (wsc x3) (View.ld x0 (Rect.unit (s := S1024x1408) ![768, 0] S256x1408.size inb_S1024x1408_S256x1408_768_0)) (wmat x2) (View.ld x4 (Rect.unit (s := S1024x2048) ![768, 0] S256x2048.size inb_S1024x2048_S256x2048_768_0)) (ix2 r c) = cell v1 v3 v5 v8 x0 x1 x2 x3 x4 ⟨768 + r.val, by omega⟩ c := by
  have hx : (if h : r.val < 128 then x1 (ix2 6 ⟨r.val, h⟩) else x1 (ix2 7 ⟨r.val - 128, by omega⟩)) = x1 (ix2 ⟨(768 + r.val) / 128, by omega⟩ ⟨(768 + r.val) % 128, by omega⟩) := by
    split
    · congr 2
      · apply Fin.ext; show 6 = (768 + r.val) / 128; omega
      · apply Fin.ext; show r.val = (768 + r.val) % 128; omega
    · congr 2
      · apply Fin.ext; show 7 = (768 + r.val) / 128; omega
      · apply Fin.ext; show r.val - 128 = (768 + r.val) % 128; omega
  unfold cell prod
  rw [← hx]
  simp only [← rowWord_chunk]
  pointwise [k0_pay9, xsc, wsc, wmat, k0_pay1, k0_pay2]

/-- One element of what the point stores. -/
theorem outBuf_apply (v1 v3 v5 v8 : BitVec 32) (x0 : Vec Ideal S1024x1408 .fp8e4m3) (x1 : Vec Ideal S8x128 .f32) (x2 : Vec Ideal S1x1408x2048 .fp8e4m3) (x3 : Vec Ideal S1x1x2048 .f32) (x4 : Vec Ideal S1024x2048 .bf16) (r : Fin 1024) (c : Fin 2048) :
    outBuf v1 v3 v5 v8 x0 x1 x2 x3 x4 (ix2 r c) = cell v1 v3 v5 v8 x0 x1 x2 x3 x4 r c := by
  unfold outBuf
  refine (View.canon_apply_of_pieces (fun y : S1024x2048.Idx => cell v1 v3 v5 v8 x0 x1 x2 x3 x4 (y 0) (y 1)) _ ?_ (ix2 r c) (cover4 _ _ _ _ _)).trans rfl
  intro p hp
  simp only [List.mem_cons, List.not_mem_nil, or_false] at hp
  rcases hp with rfl | rfl | rfl | rfl
  · intro x
    obtain ⟨a, b, rfl⟩ : ∃ (a : Fin 256) (b : Fin 2048), x = ix2 a b := ⟨x 0, x 1, eq_ix2 x⟩
    refine (chunk768 v1 v3 v5 v8 x0 x1 x2 x3 x4 a b).trans ?_
    show cell v1 v3 v5 v8 x0 x1 x2 x3 x4 _ _ = cell v1 v3 v5 v8 x0 x1 x2 x3 x4 _ _
    congr 1
    · apply Fin.ext; show 768 + a.val = 768 + 1 * a.val; omega
    · apply Fin.ext; show b.val = 0 + 1 * b.val; omega
  · intro x
    obtain ⟨a, b, rfl⟩ : ∃ (a : Fin 256) (b : Fin 2048), x = ix2 a b := ⟨x 0, x 1, eq_ix2 x⟩
    refine (chunk512 v1 v3 v5 v8 x0 x1 x2 x3 x4 a b).trans ?_
    show cell v1 v3 v5 v8 x0 x1 x2 x3 x4 _ _ = cell v1 v3 v5 v8 x0 x1 x2 x3 x4 _ _
    congr 1
    · apply Fin.ext; show 512 + a.val = 512 + 1 * a.val; omega
    · apply Fin.ext; show b.val = 0 + 1 * b.val; omega
  · intro x
    obtain ⟨a, b, rfl⟩ : ∃ (a : Fin 256) (b : Fin 2048), x = ix2 a b := ⟨x 0, x 1, eq_ix2 x⟩
    refine (chunk256 v1 v3 v5 v8 x0 x1 x2 x3 x4 a b).trans ?_
    show cell v1 v3 v5 v8 x0 x1 x2 x3 x4 _ _ = cell v1 v3 v5 v8 x0 x1 x2 x3 x4 _ _
    congr 1
    · apply Fin.ext; show 256 + a.val = 256 + 1 * a.val; omega
    · apply Fin.ext; show b.val = 0 + 1 * b.val; omega
  · intro x
    obtain ⟨a, b, rfl⟩ : ∃ (a : Fin 256) (b : Fin 2048), x = ix2 a b := ⟨x 0, x 1, eq_ix2 x⟩
    refine (chunk0 v1 v3 v5 v8 x0 x1 x2 x3 x4 a b).trans ?_
    show cell v1 v3 v5 v8 x0 x1 x2 x3 x4 _ _ = cell v1 v3 v5 v8 x0 x1 x2 x3 x4 _ _
    congr 1
    · apply Fin.ext; show 0 + a.val = 0 + 1 * a.val; omega
    · apply Fin.ext; show b.val = 0 + 1 * b.val; omega

end Cert.KernelIdeal.Run
-- ==== Proof.KernelIdealBlocks.lean ====
/-
  WHERE EACH WINDOW'S BLOCK LIES in its array, for any contents of the tables that keep the blocks inside.
-/
module

public import proofs.«01_k».proof.Proof.KernelIdealCell
public import Idealize.ShloMosaic.Lib.Pipeline.ValueKit.Basic

@[expose] public section

set_option maxRecDepth 16384

noncomputable section

namespace Cert.KernelIdeal.Blocks

open Cert.KernelIdeal.Gen Cert.KernelIdeal.Run
open Idealize.ShloMosaic Idealize.ShloMosaic.TcCoe Idealize.ShloMosaic.Pointwise

/-! ## Sums of numbers -/

theorem num_tile {w T r : Nat} (h : w = T) : w * 1024 + r = 1024 * T + r := by omega
theorem num_tile8 {w T a : Nat} (h : w = T) : w * 8 + a = 8 * T + a := by omega
theorem num_group {w g : Nat} (h : w = g) : w * 1 + 0 = g := by omega
theorem num_zero {n k : Nat} : 0 * n + k = k := by omega
theorem num_lin {T a b : Nat} : (8 * T + a) * 128 + b = 1024 * T + (128 * a + b) := by omega
theorem num_lt {T r : Nat} (h : T < 96) (hr : r < 1024) : 1024 * T + r < 98304 := by omega
theorem num_lt8 {T a : Nat} (h : T < 96) (hr : a < 8) : 8 * T + a < 768 := by omega
theorem num_ltab {T a b : Nat} (h : T < 96) (hr : a < 8) (hb : b < 128) : 1024 * T + (128 * a + b) < 98304 := by omega
theorem num_row {T r : Nat} : 1024 * T + (128 * (r / 128) + r % 128) = 1024 * T + r := by omega

variable (a : (pcfg0 (F := Ideal)).Adm) (t : Fin (cfg0 a).N) {T g : Nat}

theorem idx0 : ((cfg0 a).win 0).index t = ![(word (F := Ideal) (a.1 0) (grid0.coords t)).toNat, 0] := rfl
theorem idx1 : ((cfg0 a).win 1).index t = ![(word (F := Ideal) (a.1 0) (grid0.coords t)).toNat, 0] := rfl
theorem idx2 : ((cfg0 a).win 2).index t = ![(Scalar.minsi (word (F := Ideal) (a.1 1) (grid0.coords t)) 15#32).toNat, 0, 0] := rfl
theorem idx3 : ((cfg0 a).win 3).index t = ![(Scalar.minsi (word (F := Ideal) (a.1 1) (grid0.coords t)) 15#32).toNat, 0, 0] := rfl
theorem idx4 : ((cfg0 a).win 4).index t = ![(word (F := Ideal) (a.1 0) (grid0.coords t)).toNat, 0] := rfl

theorem emb0 (hT : T < 96) (h : (word (F := Ideal) (a.1 0) (grid0.coords t)).toNat = T) (r : Fin 1024) (k : Fin 1408) :
    (((cfg0 a).win 0).rect t).emb (ix2 r k) = (ix2 ⟨1024 * T + r.val, num_lt hT r.isLt⟩ k : S98304x1408.Idx) := by
  refine funext fun x => Fin.ext ?_
  refine (Pipeline.Window.rect_emb_val ((cfg0 a).win 0) t (ix2 r k) x).trans ?_
  fin_cases x
  · exact num_tile h
  · exact num_zero

theorem emb1 (hT : T < 96) (h : (word (F := Ideal) (a.1 0) (grid0.coords t)).toNat = T) (p : Fin 8) (q : Fin 128) :
    (((cfg0 a).win 1).rect t).emb (ix2 p q) = (ix2 ⟨8 * T + p.val, num_lt8 hT p.isLt⟩ q : S768x128.Idx) := by
  refine funext fun x => Fin.ext ?_
  refine (Pipeline.Window.rect_emb_val ((cfg0 a).win 1) t (ix2 p q) x).trans ?_
  fin_cases x
  · exact num_tile8 h
  · exact num_zero

theorem emb2 (hg : g < 16) (h : (Scalar.minsi (word (F := Ideal) (a.1 1) (grid0.coords t)) 15#32).toNat = g) (k : Fin 1408) (j : Fin 2048) :
    (((cfg0 a).win 2).rect t).emb (ix3 0 k j) = (ix3 ⟨g, hg⟩ k j : S16x1408x2048.Idx) := by
  refine funext fun x => Fin.ext ?_
  refine (Pipeline.Window.rect_emb_val ((cfg0 a).win 2) t (ix3 0 k j) x).trans ?_
  fin_cases x
  · exact num_group h
  · exact num_zero
  · exact num_zero

theorem emb3 (hg : g < 16) (h : (Scalar.minsi (word (F := Ideal) (a.1 1) (grid0.coords t)) 15#32).toNat = g) (j : Fin 2048) :
    (((cfg0 a).win 3).rect t).emb (ix3 0 0 j) = (ix3 ⟨g, hg⟩ 0 j : S16x1x2048.Idx) := by
  refine funext fun x => Fin.ext ?_
  refine (Pipeline.Window.rect_emb_val ((cfg0 a).win 3) t (ix3 0 0 j) x).trans ?_
  fin_cases x
  · exact num_group h
  · rfl
  · exact num_zero

theorem emb4 (hT : T < 96) (h : (word (F := Ideal) (a.1 0) (grid0.coords t)).toNat = T) (r : Fin 1024) (j : Fin 2048) :
    (((cfg0 a).win 4).rect t).emb (ix2 r j) = (ix2 ⟨1024 * T + r.val, num_lt hT r.isLt⟩ j : S98304x2048.Idx) := by
  refine funext fun x => Fin.ext ?_
  refine (Pipeline.Window.rect_emb_val ((cfg0 a).win 4) t (ix2 r j) x).trans ?_
  fin_cases x
  · exact num_tile h
  · exact num_zero

/-! ## The blocks read -/

theorem rd0 (x : Vec Ideal S98304x1408 .fp8e4m3) (hT : T < 96) (h : (word (F := Ideal) (a.1 0) (grid0.coords t)).toNat = T) (r : Fin 1024) (k : Fin 1408) :
    (((cfg0 a).win 0).blk t).view.read (Elt Ideal) x (ix2 r k) = x (ix2 ⟨1024 * T + r.val, num_lt hT r.isLt⟩ k) :=
  congrArg x (emb0 a t hT h r k)

theorem rd1 (x : Vec Ideal S768x128 .f32) (hT : T < 96) (h : (word (F := Ideal) (a.1 0) (grid0.coords t)).toNat = T) (p : Fin 8) (q : Fin 128) :
    (((cfg0 a).win 1).blk t).view.read (Elt Ideal) x (ix2 p q) = x (ix2 ⟨8 * T + p.val, num_lt8 hT p.isLt⟩ q) :=
  congrArg x (emb1 a t hT h p q)

theorem rd2 (x : Vec Ideal S16x1408x2048 .fp8e4m3) (hg : g < 16) (h : (Scalar.minsi (word (F := Ideal) (a.1 1) (grid0.coords t)) 15#32).toNat = g) (k : Fin 1408) (j : Fin 2048) :
    (((cfg0 a).win 2).blk t).view.read (Elt Ideal) x (ix3 0 k j) = x (ix3 ⟨g, hg⟩ k j) :=
  congrArg x (emb2 a t hg h k j)

theorem rd3 (x : Vec Ideal S16x1x2048 .f32) (hg : g < 16) (h : (Scalar.minsi (word (F := Ideal) (a.1 1) (grid0.coords t)) 15#32).toNat = g) (j : Fin 2048) :
    (((cfg0 a).win 3).blk t).view.read (Elt Ideal) x (ix3 0 0 j) = x (ix3 ⟨g, hg⟩ 0 j) :=
  congrArg x (emb3 a t hg h j)

theorem rd4 (x : Vec Ideal S98304x2048 .bf16) (hT : T < 96) (h : (word (F := Ideal) (a.1 0) (grid0.coords t)).toNat = T) (r : Fin 1024) (j : Fin 2048) :
    (((cfg0 a).win 4).blk t).view.read (Elt Ideal) x (ix2 r j) = x (ix2 ⟨1024 * T + r.val, num_lt hT r.isLt⟩ j) :=
  congrArg x (emb4 a t hT h r j)

/-- Row `r` of the result lies in the block of the tile it belongs to. -/
theorem mem4 (i : S98304x2048.Idx) (h : (word (F := Ideal) (a.1 0) (grid0.coords t)).toNat = (i 0).val / 1024) :
    i ∈ (((cfg0 a).win 4).rect t).set := by
  refine (Pipeline.Window.mem_rect_iff ((cfg0 a).win 4) t i (by rfl)).mpr fun x => ?_
  fin_cases x
  · show (word (F := Ideal) (a.1 0) (grid0.coords t)).toNat * 1024 ≤ (i 0).val ∧ (i 0).val < (word (F := Ideal) (a.1 0) (grid0.coords t)).toNat * 1024 + 1024
    rw [h]; omega
  · show 0 * 2048 ≤ (i 1).val ∧ (i 1).val < 0 * 2048 + 2048
    have : (i 1).val < 2048 := (i 1).isLt
    omega

/-- The result's block is written back at a point exactly where it is the last or the next point's tile differs. -/
theorem flush4 : ((cfg0 a).win 4).flush t = true ↔ (t.val + 1 = 112
    ∨ ∃ h : t.val + 1 < 112, (word (F := Ideal) (a.1 0) (grid0.coords ⟨t.val + 1, h⟩)).toNat ≠ (word (F := Ideal) (a.1 0) (grid0.coords t)).toNat) := by
  refine (Pipeline.Window.flush_out ((cfg0 a).win 4) rfl t).trans (or_congr Iff.rfl (exists_congr fun h => ?_))
  have e1 : ((cfg0 a).win 4).index ⟨t.val + 1, h⟩ = ![(word (F := Ideal) (a.1 0) (grid0.coords ⟨t.val + 1, h⟩)).toNat, 0] := idx4 a _
  have e2 := idx4 a t
  constructor
  · intro hne he
    exact hne (e1.trans ((congrArg (fun n => ![n, 0]) he).trans e2.symm))
  · intro hne he
    exact hne (congrFun (e1.symm.trans (he.trans e2)) 0)

/-- Where a tile's block is written back, it reaches every index of the tile. -/
theorem mem_blk4 (i : S98304x2048.Idx) (h : (word (F := Ideal) (a.1 0) (grid0.coords t)).toNat = (i 0).val / 1024) :
    i ∈ (((cfg0 a).win 4).blk t).view.set := by
  show i ∈ ((View.whole main_v67).slice (((cfg0 a).win 4).rect t)).set
  erw [View.set_slice_whole]
  exact mem4 a t i h

end Cert.KernelIdeal.Blocks
-- ==== Proof.Spec.lean ====
/-
  THE PRODUCT'S VALUE as a function of the arguments, over the extended reals: a row's product with the matrix of the group that owns it,
  times the row's scale, times the group's scale of the column; zero where no group owns the row.
-/
module

public import proofs.«01_k».proof.Proof.Plan
public import Idealize.ShloMosaic.Lib.Pointwise

@[expose] public section

noncomputable section

namespace Cert.Spec

open Idealize.ShloMosaic Idealize.ShloMosaic.Pointwise

/-- The row's group: the sixteenth where no group owns it. -/
def owner (s : Nat → Nat) (r : Fin 98304) : Nat := Classical.choose (Plan.exists_group s r.isLt)

theorem owner_eq (s : Nat → Nat) (r : Fin 98304) {e : Nat} (h1 : Plan.starts s e ≤ r.val) (h2 : r.val < Plan.ends s e) : owner s r = e := by
  obtain ⟨_, g1, g2⟩ := Classical.choose_spec (Plan.exists_group s r.isLt)
  rcases Nat.lt_trichotomy (owner s r) e with h | h | h
  · have := Plan.ends_le_starts s h
    unfold owner at this; omega
  · exact h
  · have := Plan.ends_le_starts s h
    unfold owner at this; omega

variable (X : Vec Ideal ⟨2, ![98304, 1408]⟩ .fp8e4m3) (XS : Vec Ideal ⟨1, ![98304]⟩ .f32) (W : Vec Ideal ⟨3, ![16, 1408, 2048]⟩ .fp8e4m3) (WS : Vec Ideal ⟨2, ![16, 2048]⟩ .f32)

/-- A row's scaled product with one group's matrix. -/
def elem (e : Fin 16) (r : Fin 98304) (j : Fin 2048) : EReal :=
  ((∑ k : Fin 1408, X (ix2 r k) * W (ix3 e k j)) * XS (ix1 r)) * WS (ix2 e j)

/-- The product's value. -/
def G (s : Nat → Nat) (r : Fin 98304) (j : Fin 2048) : EReal :=
  if h : owner s r < 16 then elem X XS W WS ⟨owner s r, h⟩ r j else 0

end Cert.Spec
-- ==== Proof.Masks.lean ====
/-
  COMPARISONS OF WORDS holding small numbers.
-/
module

public import proofs.«01_k».proof.Proof.Words

@[expose] public section

namespace Cert.Masks

open Idealize.ShloMosaic

theorem toInt_small {a : Nat} (ha : a < 2 ^ 31) : (BitVec.ofNat 32 a).toInt = (a : Int) := by
  rw [BitVec.toInt_eq_toNat_cond, BitVec.toNat_ofNat]
  split_ifs <;> omega

/-- Less, as a bit. -/
theorem slt_small {a b : Nat} (ha : a < 2 ^ 31) (hb : b < 2 ^ 31) : IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, toInt_small ha, toInt_small hb]
    simp
  show BitVec.ofBool ((BitVec.ofNat 32 a).slt (BitVec.ofNat 32 b)) = _
  rw [h]
  by_cases hab : a < b <;> simp [hab]

/-- At least, as a bit. -/
theorem sge_small {a b : Nat} (ha : a < 2 ^ 31) (hb : b < 2 ^ 31) : IntOp.cmpi .sge (BitVec.ofNat 32 a) (BitVec.ofNat 32 b) = if b ≤ a then 1#1 else 0#1 := by
  have h : (BitVec.ofNat 32 b).sle (BitVec.ofNat 32 a) = decide (b ≤ a) := by
    rw [BitVec.sle_eq_decide, toInt_small ha, toInt_small hb]
    simp
  show BitVec.ofBool ((BitVec.ofNat 32 b).sle (BitVec.ofNat 32 a)) = _
  rw [h]
  by_cases hab : b ≤ a <;> simp [hab]

/-- Within a range, as a bit. -/
theorem range_small {r a b : Nat} (hr : r < 2 ^ 31) (ha : a < 2 ^ 31) (hb : b < 2 ^ 31) :
    IntOp.andi (IntOp.cmpi .sge (BitVec.ofNat 32 r) (BitVec.ofNat 32 a)) (IntOp.cmpi .slt (BitVec.ofNat 32 r) (BitVec.ofNat 32 b)) = if a ≤ r ∧ r < b then 1#1 else 0#1 := by
  rw [sge_small hr ha, slt_small hr hb]
  by_cases h1 : a ≤ r <;> by_cases h2 : r < b <;> simp [h1, h2] <;> rfl

end Cert.Masks
-- ==== Proof.KernelIdealPoint.lean ====
/-
  WHAT A GRID POINT LEAVES, in terms of the arguments: each window's block read at an index, and from them the stored element.
-/
module

public import proofs.«01_k».proof.Proof.KernelIdealBlocks
public import proofs.«01_k».proof.Proof.Spec
public import proofs.«01_k».proof.Proof.Masks

@[expose] public section

set_option maxRecDepth 16384

noncomputable section

namespace Cert.KernelIdeal.Run

open Cert.KernelIdeal.Gen Cert.KernelIdeal.Blocks
open Idealize.ShloMosaic Idealize.ShloMosaic.TcCoe Idealize.ShloMosaic.Pointwise

variable (m : (ℓ : Loc nD τ sig) → Buf (Elt Ideal) ℓ)
variable (hc : ∀ e, e < 16 → sz m e ≤ 98304) (hO : Ok m)

/-- The rows' codes. -/
abbrev aX (c : Dev nD) : Vec Ideal S98304x1408 .fp8e4m3 := m ((c : Thread nD τ).loc main_arg0)
/-- The rows' scales. -/
abbrev aXS (c : Dev nD) : Vec Ideal S98304 .f32 := m ((c : Thread nD τ).loc main_arg1)
/-- The matrices' codes. -/
abbrev aW (c : Dev nD) : Vec Ideal S16x1408x2048 .fp8e4m3 := m ((c : Thread nD τ).loc main_arg2)
/-- The matrices' scales. -/
abbrev aWS (c : Dev nD) : Vec Ideal S16x2048 .f32 := m ((c : Thread nD τ).loc main_arg3)

/-- The value at a row and a column. -/
abbrev val (c : Dev nD) (r : Fin 98304) (j : Fin 2048) : EReal := Spec.G (aX m c) (aXS m c) (aW m c) (aWS m c) (sz m) r j

/-- The point's tile of rows. -/
def tl (t : Fin (cfgM m hO).N) : Nat := Plan.tile (sz m) t.val
/-- The point's group. -/
def gp (t : Fin (cfgM m hO).N) : Nat := Plan.grp (sz m) t.val

theorem tl_lt (t : Fin (cfgM m hO).N) : tl m hO t < 96 := Plan.tile_lt _ _

theorem v65 (c : Dev nD) : (V m c main_v65 : Vec Ideal S768x128 .f32) = shapeCast S768x128 (aXS m c) shapeCasts_S98304_S768x128 := Tables.final_v65 (V₀ m c)
theorem v66 (c : Dev nD) : (V m c main_v66 : Vec Ideal S16x1x2048 .f32) = shapeCast S16x1x2048 (aWS m c) shapeCasts_S16x2048_S16x1x2048 := Tables.final_v66 (V₀ m c)

theorem lo_eq {t : Fin (cfgM m hO).N} (h : gp m hO t ≤ 16) : Plan.lo (sz m) t.val = Plan.starts (sz m) (gp m hO t) := if_pos h
theorem hi_eq {t : Fin (cfgM m hO).N} (h : gp m hO t ≤ 16) : Plan.hi (sz m) t.val = Plan.ends (sz m) (gp m hO t) := if_pos h

attribute [local irreducible] V tbl Plan.tile Plan.grp Plan.lo Plan.hi

include hc

theorem w0 (t : Fin (cfgM m hO).N) : word (F := Ideal) (tbl m 0) (grid0.coords t) = BitVec.ofNat 32 (tl m hO t) := by rw [word0 m hc, coords_val t]; rfl
theorem w1 (t : Fin (cfgM m hO).N) : word (F := Ideal) (tbl m 1) (grid0.coords t) = BitVec.ofNat 32 (min (gp m hO t) 16) := by rw [word1 m hc, coords_val t]; rfl
theorem w2 (t : Fin (cfgM m hO).N) : word (F := Ideal) (tbl m 2) (grid0.coords t) = BitVec.ofNat 32 (Plan.lo (sz m) t.val) := by rw [word2 m hc, coords_val t]
theorem w3 (t : Fin (cfgM m hO).N) : word (F := Ideal) (tbl m 3) (grid0.coords t) = BitVec.ofNat 32 (Plan.hi (sz m) t.val) := by rw [word3 m hc, coords_val t]

theorem tileNat (t : Fin (cfgM m hO).N) : (word (F := Ideal) (tbl m 0) (grid0.coords t)).toNat = tl m hO t := by
  rw [w0 m hc hO t, BitVec.toNat_ofNat]
  exact Nat.mod_eq_of_lt (lt_trans (tl_lt m hO t) (by decide))

theorem min_min {x : Nat} (h : x < 16) : min (min x 16) 15 = x := by omega

theorem groupNat (t : Fin (cfgM m hO).N) (hg : gp m hO t < 16) : (Scalar.minsi (word (F := Ideal) (tbl m 1) (grid0.coords t)) 15#32).toNat = gp m hO t := by
  rw [w1 m hc hO t]
  exact (group_word ⟨min (gp m hO t) 16, Nat.lt_succ_of_le (min_le_right _ _)⟩).trans (min_min m hc hg)

/-! ## The blocks -/

/-- The point's rows. -/
def b0 (c : Dev nD) (t : Fin (cfgM m hO).N) : Vec Ideal S1024x1408 .fp8e4m3 := iblk m hO c 0 t
/-- The point's row scales. -/
def b1 (c : Dev nD) (t : Fin (cfgM m hO).N) : Vec Ideal S8x128 .f32 := iblk m hO c 1 t
/-- The point's matrix. -/
def b2 (c : Dev nD) (t : Fin (cfgM m hO).N) : Vec Ideal S1x1408x2048 .fp8e4m3 := iblk m hO c 2 t
/-- The point's column scales. -/
def b3 (c : Dev nD) (t : Fin (cfgM m hO).N) : Vec Ideal S1x1x2048 .f32 := iblk m hO c 3 t

theorem blk0 (c : Dev nD) (t : Fin (cfgM m hO).N) (r : Fin 1024) (k : Fin 1408) :
    b0 m hO c t (ix2 r k) = aX m c (ix2 ⟨1024 * tl m hO t + r.val, num_lt (tl_lt m hO t) r.isLt⟩ k) :=
  (rd0 (adm m hO) t (V m c main_arg0) (tl_lt m hO t) (tileNat m hc hO t) r k).trans (congrFun (V_main_arg0 m c) _)

omit hc in
theorem cast65 (x : Vec Ideal S98304 .f32) {T : Nat} (hT : T < 96) (p : Fin 8) (q : Fin 128) :
    shapeCast S768x128 x shapeCasts_S98304_S768x128 (ix2 ⟨8 * T + p.val, num_lt8 hT p.isLt⟩ q) = x (ix1 ⟨1024 * T + (128 * p.val + q.val), num_ltab hT p.isLt q.isLt⟩) := by
  pointwise
  exact congrArg x (congrArg ix1 (Fin.ext num_lin))

theorem blk1 (c : Dev nD) (t : Fin (cfgM m hO).N) (p : Fin 8) (q : Fin 128) :
    b1 m hO c t (ix2 p q) = aXS m c (ix1 ⟨1024 * tl m hO t + (128 * p.val + q.val), num_ltab (tl_lt m hO t) p.isLt q.isLt⟩) :=
  (rd1 (adm m hO) t (V m c main_v65) (tl_lt m hO t) (tileNat m hc hO t) p q).trans
    ((congrFun (v65 m c) _).trans (cast65 _ (tl_lt m hO t) _ _))

theorem blk2 (c : Dev nD) (t : Fin (cfgM m hO).N) (hg : gp m hO t < 16) (k : Fin 1408) (j : Fin 2048) :
    b2 m hO c t (ix3 0 k j) = aW m c (ix3 ⟨gp m hO t, hg⟩ k j) :=
  (rd2 (adm m hO) t (V m c main_arg2) hg (groupNat m hc hO t hg) k j).trans (congrFun (V_main_arg2 m c) _)

omit hc in
theorem cast66 (x : Vec Ideal S16x2048 .f32) (g : Fin 16) (j : Fin 2048) :
    shapeCast S16x1x2048 x shapeCasts_S16x2048_S16x1x2048 (ix3 g 0 j) = x (ix2 g j) := by
  pointwise

theorem blk3 (c : Dev nD) (t : Fin (cfgM m hO).N) (hg : gp m hO t < 16) (j : Fin 2048) :
    b3 m hO c t (ix3 0 0 j) = aWS m c (ix2 ⟨gp m hO t, hg⟩ j) :=
  (rd3 (adm m hO) t (V m c main_v66) hg (groupNat m hc hO t hg) j).trans
    ((congrFun (v66 m c) _).trans (cast66 _ _ _))

/-- The scaled product of the point's blocks is the arguments'. -/
theorem prod_eq (c : Dev nD) (t : Fin (cfgM m hO).N) (hg : gp m hO t < 16) (r : Fin 1024) (j : Fin 2048) :
    prod (b0 m hO c t) (b1 m hO c t) (b2 m hO c t) (b3 m hO c t) r j
      = Spec.elem (aX m c) (aXS m c) (aW m c) (aWS m c) ⟨gp m hO t, hg⟩ ⟨1024 * tl m hO t + r.val, num_lt (tl_lt m hO t) r.isLt⟩ j := by
  unfold prod Spec.elem
  have h1 : b1 m hO c t (ix2 ⟨r.val / 128, by have := r.isLt; omega⟩ ⟨r.val % 128, by omega⟩) = aXS m c (ix1 ⟨1024 * tl m hO t + r.val, num_lt (tl_lt m hO t) r.isLt⟩) :=
    (blk1 m hc hO c t _ _).trans (congrArg (aXS m c) (congrArg ix1 (Fin.ext num_row)))
  have hs : (∑ k : Fin 1408, b0 m hO c t (ix2 r k) * b2 m hO c t (ix3 0 k j))
      = ∑ k : Fin 1408, aX m c (ix2 ⟨1024 * tl m hO t + r.val, num_lt (tl_lt m hO t) r.isLt⟩ k) * aW m c (ix3 ⟨gp m hO t, hg⟩ k j) :=
    Finset.sum_congr rfl fun k _ => by rw [blk0 m hc hO c t r k, blk2 m hc hO c t hg k j]
  rw [h1, blk3 m hc hO c t hg j, hs]

omit hc in
theorem row_word (T : Nat) (r : Fin 1024) : rowWord (BitVec.ofNat 32 T) r.val = BitVec.ofNat 32 (1024 * T + r.val) := by
  unfold rowWord
  apply BitVec.eq_of_toNat_eq
  simp only [BitVec.toNat_add, BitVec.toNat_mul, BitVec.toNat_ofNat]
  omega

/-- The point's range of rows holds the tile's row `r`. -/
def Has (t : Fin (cfgM m hO).N) (r : Fin 1024) : Prop :=
  Plan.lo (sz m) t.val ≤ 1024 * tl m hO t + r.val ∧ 1024 * tl m hO t + r.val < Plan.hi (sz m) t.val

instance (t : Fin (cfgM m hO).N) (r : Fin 1024) : Decidable (Has m hO t r) := instDecidableAnd

/-- In the point's range, the stored element is the value; outside, the buffer's own. -/
theorem cell_eq (c : Dev nD) (t : Fin (cfgM m hO).N) (Y : Vec Ideal S1024x2048 .bf16) (r : Fin 1024) (j : Fin 2048) :
    (Has m hO t r → cell (word (F := Ideal) (tbl m 2) (grid0.coords t)) (word (F := Ideal) (tbl m 3) (grid0.coords t)) (word (F := Ideal) (tbl m 0) (grid0.coords t)) (word (F := Ideal) (tbl m 1) (grid0.coords t))
        (b0 m hO c t) (b1 m hO c t) (b2 m hO c t) (b3 m hO c t) Y r j = val m c ⟨1024 * tl m hO t + r.val, num_lt (tl_lt m hO t) r.isLt⟩ j)
    ∧ (¬ Has m hO t r → cell (word (F := Ideal) (tbl m 2) (grid0.coords t)) (word (F := Ideal) (tbl m 3) (grid0.coords t)) (word (F := Ideal) (tbl m 0) (grid0.coords t)) (word (F := Ideal) (tbl m 1) (grid0.coords t))
        (b0 m hO c t) (b1 m hO c t) (b2 m hO c t) (b3 m hO c t) Y r j = Y (ix2 r j)) := by
  have hl := Plan.lo_le (sz m) t.val
  have hh := Plan.hi_le (sz m) t.val
  have hrow : 1024 * tl m hO t + r.val < 98304 := num_lt (tl_lt m hO t) r.isLt
  rw [w0 m hc hO t, w1 m hc hO t, w2 m hc hO t, w3 m hc hO t]
  have hm : IntOp.andi (IntOp.cmpi .sge (rowWord (BitVec.ofNat 32 (tl m hO t)) r) (BitVec.ofNat 32 (Plan.lo (sz m) t.val))) (IntOp.cmpi .slt (rowWord (BitVec.ofNat 32 (tl m hO t)) r) (BitVec.ofNat 32 (Plan.hi (sz m) t.val)))
      = if Has m hO t r then 1#1 else 0#1 := by
    rw [row_word]
    exact Masks.range_small (lt_trans hrow (by decide)) (lt_of_le_of_lt hl (by decide)) (lt_of_le_of_lt hh (by decide))
  have hk : IntOp.cmpi .slt (BitVec.ofNat 32 (min (gp m hO t) 16)) 16#32 = if min (gp m hO t) 16 < 16 then 1#1 else 0#1 :=
    Masks.slt_small (b := 16) (lt_of_le_of_lt (min_le_right _ _) (by decide)) (by decide)
  constructor
  · intro hin
    have hgl : gp m hO t ≤ 16 := Plan.grp_of_lt (sz m) (lt_of_le_of_lt hin.1 hin.2)
    have hlo : Plan.lo (sz m) t.val = Plan.starts (sz m) (gp m hO t) := lo_eq m hO hgl
    have hhi : Plan.hi (sz m) t.val = Plan.ends (sz m) (gp m hO t) := hi_eq m hO hgl
    have ho : Spec.owner (sz m) ⟨1024 * tl m hO t + r.val, hrow⟩ = gp m hO t :=
      Spec.owner_eq (sz m) ⟨1024 * tl m hO t + r.val, hrow⟩ (hlo ▸ hin.1) (hhi ▸ hin.2)
    unfold cell
    rw [hm, if_pos hin]
    show (if IntOp.cmpi .slt (BitVec.ofNat 32 (min (gp m hO t) 16)) 16#32 = 1#1 then _ else _) = Spec.G _ _ _ _ _ _ _
    rw [hk]
    unfold Spec.G
    by_cases hg : gp m hO t < 16
    · rw [dif_pos (ho.symm ▸ hg), if_pos (by rw [if_pos]; exact lt_of_le_of_lt (min_le_left _ _) hg), prod_eq m hc hO c t hg r j]
      simp only [ho]
    · rw [dif_neg (ho.symm ▸ hg), if_neg]
      rw [if_neg]; · decide
      exact fun h => hg (by rcases min_lt_iff.mp h with h | h; exact h; exact absurd h (by decide))
  · intro hin
    unfold cell
    rw [hm, if_neg hin]
    rfl

end Cert.KernelIdeal.Run
-- ==== Proof.KernelIdealValue.lean ====
/-
  THE KERNEL'S VALUE. What the output's staging buffer holds grows from point to point: at each point, the value at every row of the tile that
  a point so far has had in its range. A tile's block is written back after its last point, when every row has been stored.
-/
module

public import proofs.«01_k».proof.Proof.KernelIdealPoint
public import proofs.«01_k».proof.Proof.KernelIdealRun
public import Idealize.ShloMosaic.Lib.Pipeline.ArrRel

@[expose] public section

set_option maxRecDepth 16384

noncomputable section

namespace Cert.KernelIdeal.Run

open Cert.KernelIdeal.Gen Cert.KernelIdeal.Blocks
open Idealize.ShloMosaic Idealize.ShloMosaic.TcCoe Idealize.ShloMosaic.Pointwise
open Idealize.SL.Sem

variable (m : (ℓ : Loc nD τ sig) → Buf (Elt Ideal) ℓ)
variable (hc : ∀ e, e < 16 → sz m e ≤ 98304) (hO : Ok m)

/-- What the output's buffer holds after a point: the value at every row some point of the tile, up to this one, has had in its range. -/
def Kept (t : Fin (cfgM m hO).N) (X : Vec Ideal S1024x2048 .bf16) : Prop :=
  ∀ (r : Fin 1024) (j : Fin 2048), (∃ s : Fin (cfgM m hO).N, s.val ≤ t.val ∧ tl m hO s = tl m hO t ∧ Has m hO s r) →
    X (ix2 r j) = val m 0 ⟨1024 * tl m hO t + r.val, num_lt (tl_lt m hO t) r.isLt⟩ j

theorem tl_mono {s t : Fin (cfgM m hO).N} (h : s.val ≤ t.val) : tl m hO s ≤ tl m hO t := Plan.tile_mono _ h

theorem forget4 : forgets0 4 = true := rfl

theorem rl4 (P : Fin (cfgM m hO).N → Vec Ideal S1024x2048 .bf16 → Prop) (t : Fin (cfgM m hO).N) (X : Vec Ideal S1024x2048 .bf16) :
    Rl m hO P 4 t X → P t X := fun h => h

theorem leaves4 (P : Fin (cfgM m hO).N → Vec Ideal S1024x2048 .bf16 → Prop) (c : Dev nD) (t : Fin (cfgM m hO).N) (X : Vec Ideal S1024x2048 .bf16)
    (h : (rdat m hO P c).Leaves (4 : Fin 5) t X) : P t X :=
  rl4 m hO P t X (Pipeline.Dat.toRRel_leaves _ forget4 h)

theorem tile_cover (t : Fin (cfgM m hO).N) (r : Fin 1024) : ∃ s : Fin (cfgM m hO).N, tl m hO s = tl m hO t ∧ Has m hO s r := by
  have hr : 1024 * tl m hO t + r.val < 98304 := num_lt (tl_lt m hO t) r.isLt
  obtain ⟨w, hw, h1, h2, h3⟩ := Plan.cover (sz m) hr
  have e : Plan.tile (sz m) w = tl m hO t := h1.trans (by have := r.isLt; omega)
  refine ⟨⟨w, hw⟩, e, ?_⟩
  unfold Has
  have e' : tl m hO ⟨w, hw⟩ = tl m hO t := e
  rw [e']
  exact ⟨h2, h3⟩

theorem has_lt {t : Fin (cfgM m hO).N} {r : Fin 1024} (h : Has m hO t r) : Plan.lo (sz m) t.val < Plan.hi (sz m) t.val := lt_of_le_of_lt h.1 h.2

theorem cond_of_lt {a b : Nat} (ha : a < 2 ^ 31) (hb : b < 2 ^ 31) (h : a < b) : k0_cond1 (BitVec.ofNat 32 a) (BitVec.ofNat 32 b) = 1#1 := by
  have e : Scalar.cmpi .sgt (BitVec.ofNat 32 b) (BitVec.ofNat 32 a) = 1#1 := (Masks.slt_small ha hb).trans (if_pos h)
  unfold k0_cond1
  dsimp only
  rw [e]
  rfl

attribute [local irreducible] V tbl Plan.tile Plan.grp Plan.lo Plan.hi

/-- A point's block is written back only where it is the tile's last. -/
theorem last_of_flush (hc : ∀ e, e < 16 → sz m e ≤ 98304) {u s : Fin (cfgM m hO).N} (hf : ((cfgM m hO).win 4).flush u = true) (hs : tl m hO s = tl m hO u) : s.val ≤ u.val := by
  by_contra hlt
  have hlt : u.val < s.val := Nat.lt_of_not_le hlt
  have hsN : s.val < 112 := s.isLt
  rcases (flush4 (adm m hO) u).mp hf with h | ⟨h, hne⟩
  · omega
  · refine hne ((tileNat m hc hO ⟨u.val + 1, h⟩).trans (Eq.trans ?_ (tileNat m hc hO u).symm))
    refine Nat.le_antisymm ?_ (tl_mono m hO (Nat.le_succ _))
    exact hs ▸ tl_mono m hO (s := ⟨u.val + 1, h⟩) hlt

/-- Every tile has a point at which its block is written back. -/
theorem exists_flush (hc : ∀ e, e < 16 → sz m e ≤ 98304) : ∀ (n : Nat) (t : Fin (cfgM m hO).N), 112 - t.val = n → ∃ u : Fin (cfgM m hO).N, ((cfgM m hO).win 4).flush u = true ∧ tl m hO u = tl m hO t := by
  intro n
  induction n with
  | zero => intro t h; have : t.val < 112 := t.isLt; omega
  | succ n ih =>
    intro t h
    by_cases hf : ((cfgM m hO).win 4).flush t = true
    · exact ⟨t, hf, rfl⟩
    · have h1 : ¬ t.val + 1 = 112 := fun e => hf ((flush4 (adm m hO) t).mpr (.inl e))
      have ht : t.val < 112 := t.isLt
      have h2 : t.val + 1 < 112 := by omega
      have h3 : tl m hO ⟨t.val + 1, h2⟩ = tl m hO t := by
        by_contra hne
        refine hf ((flush4 (adm m hO) t).mpr (.inr ⟨h2, fun e => hne ?_⟩))
        exact (tileNat m hc hO ⟨t.val + 1, h2⟩).symm.trans (e.trans (tileNat m hc hO t))
      obtain ⟨u, hu, hu'⟩ := ih ⟨t.val + 1, h2⟩ (by show 112 - (t.val + 1) = n; omega)
      exact ⟨u, hu, hu'.trans h3⟩

theorem left_blocks (c : Dev nD) (t : Fin (cfgM m hO).N) (Y : Vec Ideal S1024x2048 .bf16) :
    left m hO c t Y = leaves (word (tbl m 2) (grid0.coords t)) (word (tbl m 3) (grid0.coords t)) (word (tbl m 0) (grid0.coords t)) (word (tbl m 1) (grid0.coords t))
      (b0 m hO c t) (b1 m hO c t) (b2 m hO c t) (b3 m hO c t) Y := rfl

theorem left_in (hc : ∀ e, e < 16 → sz m e ≤ 98304) (c : Dev nD) (t : Fin (cfgM m hO).N) (Y : Vec Ideal S1024x2048 .bf16) (r : Fin 1024) (j : Fin 2048) (h : Has m hO t r) :
    left m hO c t Y (ix2 r j) = val m c ⟨1024 * tl m hO t + r.val, num_lt (tl_lt m hO t) r.isLt⟩ j := by
  have hcd : k0_cond1 (word (F := Ideal) (tbl m 2) (grid0.coords t)) (word (F := Ideal) (tbl m 3) (grid0.coords t)) = 1#1 := by
    rw [w2 m hc hO t, w3 m hc hO t]
    exact cond_of_lt (lt_of_le_of_lt (Plan.lo_le _ _) (by decide)) (lt_of_le_of_lt (Plan.hi_le _ _) (by decide)) (has_lt m hO h)
  rw [left_blocks]
  unfold leaves
  rw [if_pos hcd, outBuf_apply]
  exact (cell_eq m hc hO c t Y r j).1 h

theorem left_out (hc : ∀ e, e < 16 → sz m e ≤ 98304) (c : Dev nD) (t : Fin (cfgM m hO).N) (Y : Vec Ideal S1024x2048 .bf16) (r : Fin 1024) (j : Fin 2048) (h : ¬ Has m hO t r) :
    left m hO c t Y (ix2 r j) = Y (ix2 r j) := by
  rw [left_blocks]
  unfold leaves
  split
  · rw [outBuf_apply]
    exact (cell_eq m hc hO c t Y r j).2 h
  · rfl

/-- What the body leaves keeps the predicate. -/
theorem kept (hc : ∀ e, e < 16 → sz m e ≤ 98304) (c : Dev nD) (t : Fin (cfgM m hO).N) (Y : Vec Ideal S1024x2048 .bf16) (hY : Found m hO (Kept m hO) c t Y) : Kept m hO t (left m hO c t Y) := by
  obtain rfl : c = 0 := Subsingleton.elim _ _
  intro r j ⟨s, hst, hs, hh⟩
  by_cases h : Has m hO t r
  · exact left_in m hO hc 0 t Y r j h
  · rw [left_out m hO hc 0 t Y r j h]
    have hne : s.val ≠ t.val := fun e => h (by obtain rfl : s = t := Fin.ext e; exact hh)
    have ht : t.val ≠ 0 := by omega
    have hN : t.val - 1 < 112 := by have : t.val < 112 := t.isLt; omega
    rcases (Pipeline.RDat.finds_of_pos (rdat m hO (Kept m hO) 0) (w := (4 : Fin 5)) (t := t) rfl ht Y).mp hY with hfl | hL
    · have := last_of_flush m hO hc (u := ⟨t.val - 1, hN⟩) (s := t) hfl
        (Nat.le_antisymm (hs ▸ tl_mono m hO (t := ⟨t.val - 1, hN⟩) (by show s.val ≤ t.val - 1; omega)) (tl_mono m hO (Nat.sub_le _ _)))
      have h' : t.val ≤ t.val - 1 := this
      omega
    · have hK : Kept m hO ⟨t.val - 1, hN⟩ Y := leaves4 m hO (Kept m hO) 0 ⟨t.val - 1, hN⟩ Y hL
      have e : tl m hO ⟨t.val - 1, hN⟩ = tl m hO t :=
        Nat.le_antisymm (tl_mono m hO (Nat.sub_le _ _)) (hs ▸ tl_mono m hO (t := ⟨t.val - 1, hN⟩) (by show s.val ≤ t.val - 1; omega))
      refine (hK r j ⟨s, by show s.val ≤ t.val - 1; omega, hs.trans e.symm, hh⟩).trans ?_
      exact congrArg (fun x => val m 0 x j) (Fin.ext (congrArg (fun n => 1024 * n + r.val) e))

/-- The result array. -/
def full (c : Dev nD) : Vec Ideal S98304x2048 .bf16 := fun i => val m c (i 0) (i 1)

theorem flushed_eq (hc : ∀ e, e < 16 → sz m e ≤ 98304) (u : Fin (cfgM m hO).N) (X : Vec Ideal S1024x2048 .bf16) (hf : ((cfgM m hO).win 4).flush u = true) (hX : Kept m hO u X) :
    ((cfgM m hO).win 4).cut (grid0.coords u) X = (((cfgM m hO).win 4).blk u).view.read (Elt Ideal) (full m 0) := by
  have key : ∀ y : S1024x2048.Idx, X y = (((cfgM m hO).win 4).blk u).view.read (Elt Ideal) (full m 0) y := fun y => by
    obtain ⟨r, j, rfl⟩ : ∃ (r : Fin 1024) (j : Fin 2048), y = ix2 r j := ⟨y 0, y 1, eq_ix2 y⟩
    obtain ⟨s, hs, hh⟩ := tile_cover m hO u r
    exact (hX r j ⟨s, last_of_flush m hO hc hf hs, hs, hh⟩).trans (rd4 (adm m hO) u (full m 0) (tl_lt m hO u) (tileNat m hc hO u) r j).symm
  exact funext fun y => key y

theorem covered (hc : ∀ e, e < 16 → sz m e ≤ 98304) (i : S98304x2048.Idx) : ∃ u : Fin (cfgM m hO).N, ((cfgM m hO).win 4).flush u = true ∧ i ∈ (((cfgM m hO).win 4).blk u).view.set := by
  have hr : (i 0).val < 98304 := (i 0).isLt
  obtain ⟨w, hw, h1, _, _⟩ := Plan.cover (sz m) hr
  obtain ⟨u, hu, hu'⟩ := exists_flush m hO hc _ ⟨w, hw⟩ rfl
  exact ⟨u, hu, mem_blk4 (adm m hO) u i ((tileNat m hc hO u).trans (hu'.trans h1))⟩

/-- THE RUN, READ: the result array at the value, the arguments unchanged. -/
theorem run_value (hc : ∀ e, e < 16 → sz m e ≤ 98304) (ρ : Dev nD → PrngReg) : θ_run defs (onTc (τ := τ) (main (F := Ideal))) ⟨m, fun _ => 0, ρ⟩ (fun r => ∀ c : Dev nD,
      r.2.mem ((c.tc : Thread nD τ).loc main_v67) = full m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO : Ok m := ok m hc
  have hrun := run_main m ρ hO (Kept m hO) (kept m hO hc)
  refine (θ_run defs _ _).mono (fun _ h c => ⟨?_, h.2 c⟩) (θ_run_and hrun (frame_of m ρ hO (fun c => rdat m hO (Kept m hO) c) (A_eq m hO) hrun))
  obtain ⟨after, hL, hA⟩ := Pipeline.RDat.FramePost.exists_exact h.1 c
  obtain rfl : c = 0 := Subsingleton.elim _ _
  refine (hA (4 : Fin 5)).trans ?_
  refine Pipeline.Dat.arrAt_eq_of_cover ((rdat m hO (Kept m hO) 0).withAfter after) (4 : Fin 5) (full m 0) (fun u hf => ?_) (covered m hO hc)
  exact flushed_eq m hO hc u (after (4 : Fin 5) u) hf (leaves4 m hO (Kept m hO) 0 u _ (hL (4 : Fin 5) u hf))

end Cert.KernelIdeal.Run
-- ==== Proof.ReferenceIdealCell.lean ====
/-
  ONE ELEMENT of what the reference's body stores, as a function of the values it reads.
-/
module

public import proofs.«01_k».proof.Proof.Gen.ReferenceIdeal.Frame
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Pointwise

theorem hz2 : (![0, 0] : Fin 2 → Nat) = fun _ => 0 := by funext a; fin_cases a <;> rfl

/-- The size of group `k` as a word. -/
def szw (x4 : Vec Ideal S16 .i32) (k : Nat) : BitVec 32 := x4 (ix1 (Fin.ofNat 16 k))

/-- Where group `k` starts, as a word: the sizes before it added up. -/
def st (x4 : Vec Ideal S16 .i32) : Nat → BitVec 32
  | 0 => 0#32
  | k + 1 => Scalar.addi (st x4 k) (szw x4 k)

/-- Row `r` is in group `k`, as a bit. -/
def inGroup (x4 : Vec Ideal S16 .i32) (k r : Nat) : BitVec 1 :=
  IntOp.andi (IntOp.cmpi .sge (BitVec.ofNat 32 r) (st x4 k)) (IntOp.cmpi .slt (BitVec.ofNat 32 r) (st x4 (k + 1)))

/-- The product's sum after the first groups. -/
def acc (x0 : Vec Ideal S98304x1408 .fp8e4m3) (x2 : Vec Ideal S16x1408x2048 .fp8e4m3) (x4 : Vec Ideal S16 .i32) (r : Fin 98304) (j : Fin 2048) : Nat → EReal
  | 0 => 0
  | k + 1 => Scalar.select (inGroup x4 k r.val) (∑ x : Fin 1408, x0 (ix2 r x) * x2 (ix3 (Fin.ofNat 16 k) x j)) (acc x0 x2 x4 r j k)

/-- The column's scale after the first groups. -/
def scl (x3 : Vec Ideal S16x2048 .f32) (x4 : Vec Ideal S16 .i32) (r : Fin 98304) (j : Fin 2048) : Nat → EReal
  | 0 => x3 (ix2 15 j)
  | k + 1 => Scalar.select (inGroup x4 k r.val) (x3 (ix2 (Fin.ofNat 16 k) j)) (scl x3 x4 r j k)

set_option maxHeartbeats 2000000 in
/-- The stored element: the row's sum, scaled by the row's scale and by the column's. -/
theorem out_apply (c : Dev nD) (arg0 : Memref sig .tc .vmem S98304x1408 .fp8e4m3) (harg0 : arg0.IsWhole) (arg1 : Memref sig .tc .vmem S98304x1 .f32) (harg1 : arg1.IsWhole) (arg2 : Memref sig .tc .vmem S16x1408x2048 .fp8e4m3) (harg2 : arg2.IsWhole) (arg3 : Memref sig .tc .vmem S16x2048 .f32) (harg3 : arg3.IsWhole) (arg4 : Memref sig .tc .smem S16 .i32) (harg4 : arg4.IsWhole) (arg5 : Memref sig .tc .vmem S98304x2048 .bf16) (harg5 : arg5.IsWhole)
    (x0 : Vec Ideal S98304x1408 .fp8e4m3) (x1 : Vec Ideal S98304x1 .f32) (x2 : Vec Ideal S16x1408x2048 .fp8e4m3) (x3 : Vec Ideal S16x2048 .f32) (x4 : Vec Ideal S16 .i32) (r : Fin 98304) (j : Fin 2048) :
    out0_A_5 c arg0 harg0 arg1 harg1 arg2 harg2 arg3 harg3 arg4 harg4 arg5 harg5 x0 x1 x2 x3 x4 (ix2 r j) = acc x0 x2 x4 r j 16 * x1 (ix2 r 0) * scl x3 x4 r j 16 := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  rw [View.canon_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.v0, kernelRun0_A.sl.v4, kernelRun0_A.sl.v26, kernelRun0_A.sl.v46, kernelRun0_A.sl.v66, kernelRun0_A.sl.v86, kernelRun0_A.sl.v106, kernelRun0_A.sl.v126, kernelRun0_A.sl.v146, kernelRun0_A.sl.v166, kernelRun0_A.sl.v186, kernelRun0_A.sl.v206, kernelRun0_A.sl.v226, kernelRun0_A.sl.v246, kernelRun0_A.sl.v266, kernelRun0_A.sl.v286]
  simp only [View.readAt_eq_ld, harg0.read_unread, harg1.read_unread, harg2.read_unread, harg3.read_unread, harg4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
  rfl

end Cert.ReferenceIdeal.Read
-- ==== Proof.ReferenceIdealValue.lean ====
/-
  THE REFERENCE'S VALUE. Its two chains of selects pick the owning group's product and scale, so that the stored element is the specification's;
  its one grid point reads and writes whole arrays.
-/
module

public import proofs.«01_k».proof.Proof.ReferenceIdealCell
public import proofs.«01_k».proof.Proof.Spec
public import proofs.«01_k».proof.Proof.Masks
public import proofs.«01_k».proof.Proof.Gen.ReferenceIdeal.Value
public import Idealize.ShloMosaic.Lib.Pipeline.ValueKit.Basic
public import Idealize.ShloMosaic.Lib.StableHlo.Run

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Pointwise
open Idealize.SL.Sem

/-! ## The groups -/

/-- A row's group is the one whose range of added sizes holds it. -/
theorem owner_iff (s : Nat → Nat) (r : Fin 98304) {e : Nat} (he : e < 16) :
    Plan.tot s e ≤ r.val ∧ r.val < Plan.tot s (e + 1) ↔ Spec.owner s r = e := by
  have hr := r.isLt
  have hends : Plan.ends s e = min (Plan.tot s (e + 1)) 98304 := if_pos he
  have hst : Plan.starts s e = min (Plan.tot s e) 98304 := by
    cases e with
    | zero => rw [Plan.starts_zero, Plan.tot_zero]; rfl
    | succ k => rw [Plan.starts_succ]; exact if_pos (by omega)
  constructor
  · rintro ⟨h1, h2⟩
    exact Spec.owner_eq s r (by rw [hst]; omega) (by rw [hends]; omega)
  · rintro rfl
    obtain ⟨_, g1, g2⟩ := Classical.choose_spec (Plan.exists_group s r.isLt)
    change Plan.starts s (Spec.owner s r) ≤ r.val at g1
    change r.val < Plan.ends s (Spec.owner s r) at g2
    rw [hst] at g1
    rw [hends] at g2
    omega

variable (x0 : Vec Ideal S98304x1408 .fp8e4m3) (x1 : Vec Ideal S98304x1 .f32) (x2 : Vec Ideal S16x1408x2048 .fp8e4m3) (x3 : Vec Ideal S16x2048 .f32) (x4 : Vec Ideal S16 .i32)
variable (s : Nat → Nat) (hs : ∀ k, k < 16 → szw x4 k = BitVec.ofNat 32 (s k)) (hb : ∀ k, k < 16 → s k ≤ 98304)

include hs in
theorem st_eq (k : Nat) (hk : k ≤ 16) : st x4 k = BitVec.ofNat 32 (Plan.tot s k) := by
  induction k with
  | zero => rfl
  | succ k ih =>
    have e : st x4 (k + 1) = st x4 k + szw x4 k := rfl
    rw [e, ih (by omega), hs k (by omega), Plan.tot_succ, BitVec.ofNat_add]

include hb in
theorem tot_small (k : Nat) (hk : k ≤ 16) : Plan.tot s k < 2 ^ 31 := by
  have := Plan.tot_le s k 98304 fun i hi => hb i (by omega)
  omega

include hs hb in
theorem inGroup_eq (r : Fin 98304) {k : Nat} (hk : k < 16) : inGroup x4 k r.val = if Spec.owner s r = k then 1#1 else 0#1 := by
  have hr := r.isLt
  unfold inGroup
  rw [st_eq x4 s hs k (by omega), st_eq x4 s hs (k + 1) (by omega),
    Masks.range_small (by omega) (tot_small s hb k (by omega)) (tot_small s hb (k + 1) (by omega))]
  exact if_congr (owner_iff s r hk) rfl rfl

include hs hb in
theorem acc_eq (r : Fin 98304) (j : Fin 2048) (k : Nat) (hk : k ≤ 16) :
    acc x0 x2 x4 r j k = if Spec.owner s r < k then ∑ x : Fin 1408, x0 (ix2 r x) * x2 (ix3 (Fin.ofNat 16 (Spec.owner s r)) x j) else 0 := by
  induction k with
  | zero => exact (if_neg (Nat.not_lt_zero _)).symm
  | succ k ih =>
    unfold acc
    rw [inGroup_eq x4 s hs hb r (by omega), ih (by omega)]
    by_cases h : Spec.owner s r = k
    · subst h
      rw [if_pos rfl, if_pos (Nat.lt_succ_self _)]
      rfl
    · rw [if_neg h]
      by_cases h' : Spec.owner s r < k
      · rw [if_pos h', if_pos (by omega)]; rfl
      · rw [if_neg h', if_neg (by omega)]; rfl

include hs hb in
theorem scl_eq (r : Fin 98304) (j : Fin 2048) (k : Nat) (hk : k ≤ 16) (h : Spec.owner s r < k) :
    scl x3 x4 r j k = x3 (ix2 (Fin.ofNat 16 (Spec.owner s r)) j) := by
  induction k with
  | zero => exact absurd h (Nat.not_lt_zero _)
  | succ k ih =>
    unfold scl
    rw [inGroup_eq x4 s hs hb r (by omega)]
    by_cases e : Spec.owner s r = k
    · subst e
      rw [if_pos rfl]
      rfl
    · rw [if_neg e, ih (by omega) (by omega)]
      rfl

include hs hb in
/-- The two chains give the specification's element. -/
theorem chain_eq (xs : Vec Ideal S98304 .f32) (hx : ∀ r : Fin 98304, x1 (ix2 r 0) = xs (ix1 r)) (r : Fin 98304) (j : Fin 2048) :
    acc x0 x2 x4 r j 16 * x1 (ix2 r 0) * scl x3 x4 r j 16 = Spec.G x0 xs x2 x3 s r j := by
  rw [acc_eq x0 x2 x4 s hs hb r j 16 le_rfl, hx r]
  unfold Spec.G
  by_cases h : Spec.owner s r < 16
  · rw [if_pos h, dif_pos h, scl_eq x3 x4 s hs hb r j 16 le_rfl h]
    have e : Fin.ofNat 16 (Spec.owner s r) = ⟨Spec.owner s r, h⟩ := Fin.ext (Nat.mod_eq_of_lt h)
    rw [e]
    rfl
  · rw [if_neg h, dif_neg h]
    exact (congrArg (· * _) (zero_mul _)).trans (zero_mul _)

/-! ## The one point's blocks -/

variable (m : (ℓ : Loc nD τ sig) → Buf (Elt Ideal) ℓ) (c : Dev nD)

theorem whole_num {n k : Nat} : 0 * n + k = k := by omega

theorem rd0 (t : Fin cfg0.N) (x : Vec Ideal S98304x1408 .fp8e4m3) : ((cfg0.win 0).blk t).view.read (Elt Ideal) x = x := by
  refine funext fun y => congrArg x (funext fun a => Fin.ext ?_)
  refine (Pipeline.Window.rect_emb_val (cfg0.win 0) t y a).trans ?_
  fin_cases a <;> exact whole_num

theorem rd1 (t : Fin cfg0.N) (x : Vec Ideal S98304x1 .f32) : ((cfg0.win 1).blk t).view.read (Elt Ideal) x = x := by
  refine funext fun y => congrArg x (funext fun a => Fin.ext ?_)
  refine (Pipeline.Window.rect_emb_val (cfg0.win 1) t y a).trans ?_
  fin_cases a <;> exact whole_num

theorem rd2 (t : Fin cfg0.N) (x : Vec Ideal S16x1408x2048 .fp8e4m3) : ((cfg0.win 2).blk t).view.read (Elt Ideal) x = x := by
  refine funext fun y => congrArg x (funext fun a => Fin.ext ?_)
  refine (Pipeline.Window.rect_emb_val (cfg0.win 2) t y a).trans ?_
  fin_cases a <;> exact whole_num

theorem rd3 (t : Fin cfg0.N) (x : Vec Ideal S16x2048 .f32) : ((cfg0.win 3).blk t).view.read (Elt Ideal) x = x := by
  refine funext fun y => congrArg x (funext fun a => Fin.ext ?_)
  refine (Pipeline.Window.rect_emb_val (cfg0.win 3) t y a).trans ?_
  fin_cases a <;> exact whole_num

theorem rd4 (t : Fin cfg0.N) (x : Vec Ideal S16 .i32) : ((cfg0.win 4).blk t).view.read (Elt Ideal) x = x := by
  refine funext fun y => congrArg x (funext fun a => Fin.ext ?_)
  refine (Pipeline.Window.rect_emb_val (cfg0.win 4) t y a).trans ?_
  fin_cases a <;> exact whole_num

theorem rd5 (t : Fin cfg0.N) (x : Vec Ideal S98304x2048 .bf16) : ((cfg0.win 5).blk t).view.read (Elt Ideal) x = x := by
  refine funext fun y => congrArg x (funext fun a => Fin.ext ?_)
  refine (Pipeline.Window.rect_emb_val (cfg0.win 5) t y a).trans ?_
  fin_cases a <;> exact whole_num

/-- The column of row scales is the argument's. -/
theorem V_main_v0 : (V m c main_v0 : Vec Ideal S98304x1 .f32) = shapeCast S98304x1 (m ((c : Thread nD τ).loc main_arg1) : Vec Ideal S98304 .f32) shapeCasts_S98304_S98304x1 := by
  show StableHlo.after hostOps0 _ (Proc.devRef .tc main_v0) = _
  after_results
  rfl

theorem column (x : Vec Ideal S98304 .f32) (r : Fin 98304) : shapeCast S98304x1 x shapeCasts_S98304_S98304x1 (ix2 r 0) = x (ix1 r) := by
  pointwise

/-! ## The result -/

variable (m : (ℓ : Loc nD τ sig) → Buf (Elt Ideal) ℓ) (c : Dev nD)

/-- The result array. -/
def full : Vec Ideal S98304x2048 .bf16 := fun i =>
  Spec.G (m ((c : Thread nD τ).loc main_arg0)) (m ((c : Thread nD τ).loc main_arg1)) (m ((c : Thread nD τ).loc main_arg2)) (m ((c : Thread nD τ).loc main_arg3)) s (i 0) (i 1)

theorem iblk0 (t : Fin cfg0.N) : iblk m c 0 t = (m ((c : Thread nD τ).loc main_arg0) : Vec Ideal S98304x1408 .fp8e4m3) :=
  (rd0 t (V m c main_arg0)).trans (V_main_arg0 m c)

theorem iblk1 (t : Fin cfg0.N) : iblk m c 1 t = shapeCast S98304x1 (m ((c : Thread nD τ).loc main_arg1) : Vec Ideal S98304 .f32) shapeCasts_S98304_S98304x1 :=
  (rd1 t (V m c main_v0)).trans (V_main_v0 m c)

theorem iblk2 (t : Fin cfg0.N) : iblk m c 2 t = (m ((c : Thread nD τ).loc main_arg2) : Vec Ideal S16x1408x2048 .fp8e4m3) :=
  (rd2 t (V m c main_arg2)).trans (V_main_arg2 m c)

theorem iblk3 (t : Fin cfg0.N) : iblk m c 3 t = (m ((c : Thread nD τ).loc main_arg3) : Vec Ideal S16x2048 .f32) :=
  (rd3 t (V m c main_arg3)).trans (V_main_arg3 m c)

theorem iblk4 (t : Fin cfg0.N) : iblk m c 4 t = (m ((c : Thread nD τ).loc main_arg4) : Vec Ideal S16 .i32) :=
  (rd4 t (V m c main_arg4)).trans (V_main_arg4 m c)

/-- What the body stores is the result array. -/
theorem stored (hs : ∀ k, k < 16 → szw (m ((c : Thread nD τ).loc main_arg4)) k = BitVec.ofNat 32 (s k)) (hb : ∀ k, k < 16 → s k ≤ 98304) (t : Fin cfg0.N) :
    out0_A_5 c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)
      = full s m c := by
  rw [iblk0, iblk1, iblk2, iblk3, iblk4]
  funext i
  obtain ⟨r, j, rfl⟩ : ∃ (r : Fin 98304) (j : Fin 2048), i = ix2 r j := ⟨i 0, i 1, eq_ix2 i⟩
  refine (out_apply c _ _ _ _ _ _ _ _ _ _ _ _ _ _ _ _ _ r j).trans ?_
  exact chain_eq _ _ _ _ _ s hs hb _ (column _) r j

theorem flushed_eq (hs : ∀ k, k < 16 → szw (m ((c : Thread nD τ).loc main_arg4)) k = BitVec.ofNat 32 (s k)) (hb : ∀ k, k < 16 → s k ≤ 98304) (t : Fin cfg0.N) :
    (dats m 0 c).flushed 5 t = full s m c := by
  refine (Value.flushed5_A m c t).trans ?_
  rw [stored s m c hs hb t]
  rfl

theorem flush5 : ∀ t : Fin cfg0.N, (cfg0.win 5).flush t = true :=
  (by decide +kernel : ∀ t : Fin grid0.N, win0_5.flush t = true)

theorem arr_eq (hs : ∀ k, k < 16 → szw (m ((c : Thread nD τ).loc main_arg4)) k = BitVec.ofNat 32 (s k)) (hb : ∀ k, k < 16 → s k ≤ 98304) :
    (dats m 0 c).arrAt 5 cfg0.N = full s m c := by
  have hN : 0 < cfg0.N := (by decide +kernel : 0 < grid0.N)
  refine (rd5 ⟨0, hN⟩ ((dats m 0 c).arrAt 5 cfg0.N)).symm.trans ?_
  exact (Value.blocks5 m c ⟨0, hN⟩ (flush5 _)).trans (flushed_eq s m c hs hb _)

/-- THE RUN, READ: the result array at the value, the arguments unchanged. -/
theorem run_value (hs : ∀ (c : Dev nD) k, k < 16 → szw (m ((c : Thread nD τ).loc main_arg4)) k = BitVec.ofNat 32 (s k)) (hb : ∀ k, k < 16 → s k ≤ 98304) (ρ : Dev nD → PrngReg) :
    θ_run defs (onTc (τ := τ) (main (F := Ideal))) ⟨m, fun _ => 0, ρ⟩ (fun r => ∀ c : Dev nD,
      r.2.mem ((c.tc : Thread nD τ).loc main_v1) = full s m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr_eq s m c (hs c) hb), (h c).2⟩) (Value.run_blocks m ρ)

end Cert.ReferenceIdeal.Read
-- ==== Proof.lean ====
module

public import proofs.«01_k».proof.Defs
public import proofs.«01_k».proof.Proof.KernelSched
public import proofs.«01_k».proof.Proof.KernelIdealValue
public import proofs.«01_k».proof.Proof.ReferenceIdealValue
public import proofs.«01_k».proof.Proof.Gen.Pre_sizes_in_range
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_sizes_in_range.Gen.facts

/-- The kernel runs, keeps its arguments and ends with every counter at zero. -/
theorem frame_kernel : Cert.quiescent_Kernel := fun m g hpre =>
  Cert.Kernel.Run.frame m g (Cert.Kernel.Run.ok m fun e he => Cert.Kernel.Run.size_le _ _ _ _ _ (hpre 0) e he)

/-- The same of the kernel read over the extended reals. -/
theorem frame_ideal : Cert.quiescent_KernelIdeal := fun m g hpre =>
  Cert.KernelIdeal.Run.frame m g (Cert.KernelIdeal.Run.ok m fun e he => Cert.KernelIdeal.Run.size_le _ _ _ _ _ (hpre 0) e he)

/-- The same of the reference, of any arguments. -/
theorem frame_reference : Cert.quiescent_ReferenceIdeal := fun m g _ => Cert.ReferenceIdeal.Gen.frame m g

/-- The same, where the precondition holds. -/
theorem frame_reference_pre : Cert.quiescent_ReferenceIdeal_pre_sizes_in_range := fun m g _ => Cert.ReferenceIdeal.Gen.frame m g

/-- The sizes the reference reads are the kernel's. -/
theorem sizes_eq (m : (ℓ : Loc Cert.KernelIdeal.nD Cert.KernelIdeal.τ Cert.KernelIdeal.sig) → Buf (Elt Ideal) ℓ) (x4 : Vec Ideal Cert.ReferenceIdeal.S16 .i32)
    (h : x4 = m ((((0 : Dev Cert.KernelIdeal.nD)).tc : Thread Cert.KernelIdeal.nD Cert.KernelIdeal.τ).loc Cert.KernelIdeal.main_arg4)) (k : Nat) (hk : k < 16) :
    Cert.ReferenceIdeal.Read.szw x4 k = BitVec.ofNat 32 (Cert.KernelIdeal.Run.sz m k) := by
  subst h
  have e : Fin.ofNat 16 k = ⟨k, hk⟩ := Fin.ext (Nat.mod_eq_of_lt hk)
  unfold Cert.ReferenceIdeal.Read.szw Cert.KernelIdeal.Run.sz Cert.KernelIdeal.Run.size
  rw [dif_pos hk, e]
  exact BitVec.eq_of_toNat_eq (by rw [BitVec.toNat_ofNat]; exact (Nat.mod_eq_of_lt (BitVec.isLt _)).symm)

/-- The kernel and the reference give the same array over the extended reals. -/
theorem algebraic : Cert.algebraic_KernelIdeal_ReferenceIdeal := by
  intro m g m' g' hpre hargs
  have hc : ∀ e, e < 16 → Cert.KernelIdeal.Run.sz m e ≤ 98304 := fun e he => Cert.KernelIdeal.Run.size_le _ _ _ _ _ (hpre 0) e he
  refine ⟨fun c => Cert.KernelIdeal.Run.full m c, Cert.KernelIdeal.Run.run_value m hc g, ?_⟩
  have hs : ∀ (c : Dev Cert.ReferenceIdeal.nD) k, k < 16 → Cert.ReferenceIdeal.Read.szw (m' ((c.tc : Thread Cert.ReferenceIdeal.nD Cert.ReferenceIdeal.τ).loc Cert.ReferenceIdeal.main_arg4)) k
      = BitVec.ofNat 32 (Cert.KernelIdeal.Run.sz m k) := fun c k hk => by
    obtain rfl : c = 0 := Subsingleton.elim _ _
    exact sizes_eq m _ (hargs 0).2.2.2.2 k hk
  refine (θ_run Cert.ReferenceIdeal.defs _ _).mono (fun _ h c => ⟨(h c).1.trans ?_, (h c).2⟩)
    (Cert.ReferenceIdeal.Read.run_value (Cert.KernelIdeal.Run.sz m) m' hs hc g')
  obtain ⟨h0, h1, h2, h3, _⟩ := hargs c
  unfold Cert.ReferenceIdeal.Read.full
  rw [h0, h1, h2, h3]
  rfl

theorem claim : Cert.Claim :=
  ⟨Cert.Kernel.Gen.facts, Cert.KernelIdeal.Gen.facts, Cert.ReferenceIdeal.Gen.facts, Cert.Pre_sizes_in_range.Gen.facts,
    frame_kernel, frame_ideal, frame_reference, frame_reference_pre, trivial, algebraic⟩

end Cert.Proof

end
